-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1024x2048 : Shape := ⟨2, ![1024, 2048]⟩
abbrev S2048x16384 : Shape := ⟨2, ![2048, 16384]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_

variable [Facts]

def fn {F : FTy → Type} [FloatOps F] (main_arg0 : FVec F S1024x2048 .f32) (main_arg1 : FVec F S2048x16384 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  main_v8
-- ==== Pre_finite_inputs_ReferenceIdeal.lean ====
abbrev S1024x2048 : Shape := ⟨2, ![1024, 2048]⟩
abbrev S2048x32768 : Shape := ⟨2, ![2048, 32768]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x32768 : S_.BroadcastsInDim S2048x32768 (![] : Fin 0 → Fin S2048x32768.rank)
  reducesTo_S2048x32768_S_d0_1 : S2048x32768.ReducesTo [0, 1] S_

variable [Facts]

def fn {F : FTy → Type} [FloatOps F] (main_arg0 : FVec F S1024x2048 .f32) (main_arg1 : FVec F S2048x32768 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x32768 .f32 := Host.absf main_arg1
  let main_cst_0 : FVec F S_ .f32 := constant S_ .f32 0x7F800000#32
  let main_v5 : FVec F S2048x32768 .f32 := broadcastInDim S2048x32768 ![] bcast_S_S2048x32768 main_cst_0
  let main_v6 : IVec S2048x32768 1 := cmpf .olt main_v4 main_v5
  let main_c_1 : IVec S_ 1 := constantI S_ 1 1#1
  let main_v7 : IVec S_ 1 := (fun x v => Host.reduce IntOp.andi x v reducesTo_S2048x32768_S_d0_1 h_S_) main_v6 main_c_1
  let main_v8 : IVec S_ 1 := andi main_v3 main_v7
  main_v8
-- ==== Kernel.lean ====
abbrev S1024x2048 : Shape := ⟨2, ![1024, 2048]⟩
abbrev S2048x16384 : Shape := ⟨2, ![2048, 16384]⟩
abbrev S1024x32768 : Shape := ⟨2, ![1024, 32768]⟩
abbrev S1024x16384 : Shape := ⟨2, ![1024, 16384]⟩
abbrev S2x2048x1024 : Shape := ⟨3, ![2, 2048, 1024]⟩
abbrev S2x1024x1024 : Shape := ⟨3, ![2, 1024, 1024]⟩
abbrev S1024x1 : Shape := ⟨2, ![1024, 1]⟩
abbrev S1024x8 : Shape := ⟨2, ![1024, 8]⟩
abbrev S2 : Shape := ⟨1, ![2]⟩
abbrev S16 : Shape := ⟨1, ![16]⟩
abbrev S_ : Shape := ⟨0, ![]⟩
abbrev S1 : Shape := ⟨1, ![1]⟩
abbrev S1x2048x1024 : Shape := ⟨3, ![1, 2048, 1024]⟩
abbrev S2048x1024 : Shape := ⟨2, ![2048, 1024]⟩
abbrev S1024x1024 : Shape := ⟨2, ![1024, 1024]⟩
abbrev S1024 : Shape := ⟨1, ![1024]⟩
abbrev S1x1024x1024 : Shape := ⟨3, ![1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024x32768, .f32⟩
  | .hbm, ⟨3, _⟩ => ⟨S1024x16384, .f32⟩
  | .hbm, ⟨4, _⟩ => ⟨S1024x16384, .f32⟩
  | .local _ .vmem, ⟨0, _⟩ => ⟨S1024x2048, .f32⟩
  | .local _ .vmem, ⟨1, _⟩ => ⟨S2x2048x1024, .f32⟩
  | .local _ .vmem, ⟨2, _⟩ => ⟨S2x1024x1024, .f32⟩
  | .local _ .vmem, ⟨3, _⟩ => ⟨S1024x1, .f32⟩
  | .local _ .vmem, ⟨4, _⟩ => ⟨S1024x1, .f32⟩
  | .local _ .vmem, ⟨5, _⟩ => ⟨S1024x8, .f32⟩
  | .local _ .vmem, ⟨6, _⟩ => ⟨S1024x8, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
@[reducible] def k0_t1_loop : Scf.Loop 32 :=
  let c0_i32_21 : BitVec 32 := 0#32
  let c16_i32 : BitVec 32 := 16#32
  let v33 : BitVec 32 := Scalar.addi c0_i32_21 c16_i32
  let c1_i32_22 : BitVec 32 := 1#32
  ⟨c0_i32_21, v33, c1_i32_22⟩
def k0_cond1 (k0_t1 : Fin k0_t1_loop.trips) : BitVec 1 :=
  let c0_i32_21 : BitVec 32 := 0#32
  let c1_i32_22 : BitVec 32 := 1#32
  let arg19 : BitVec 32 := Scf.iv c0_i32_21 c1_i32_22 k0_t1
  let c1_i32_91 : BitVec 32 := 1#32
  let v106 : BitVec 32 := Scalar.addi arg19 c1_i32_91
  let c16_i32_92 : BitVec 32 := 16#32
  let v107 : BitVec 1 := Scalar.cmpi .slt v106 c16_i32_92
  let v108 : BitVec 32 := Scalar.extui v107
  let c0_i32_93 : BitVec 32 := 0#32
  let v109 : BitVec 1 := Scalar.cmpi .ne v108 c0_i32_93
  v109

def k0_off1 (k0_t1 : Fin k0_t1_loop.trips) : Fin 1 → Nat :=
  let c0_i32_21 : BitVec 32 := 0#32
  let c1_i32_22 : BitVec 32 := 1#32
  let arg19 : BitVec 32 := Scf.iv c0_i32_21 c1_i32_22 k0_t1
  let c1_i32_160 : BitVec 32 := 1#32
  let v221 : BitVec 32 := Scalar.addi arg19 c1_i32_160
  let c2_i32_168 : BitVec 32 := 2#32
  let c0_i32_169 : BitVec 32 := 0#32
  let v233 : BitVec 1 := Scalar.cmpi .eq c2_i32_168 c0_i32_169
  let c1_i32_170 : BitVec 32 := 1#32
  let v234 : BitVec 32 := Scalar.select v233 c1_i32_170 c2_i32_168
  let v235 : BitVec 32 := Scalar.remsi v221 v234
  let c0_i32_172 : BitVec 32 := 0#32
  let v237 : BitVec 1 := Scalar.cmpi .slt v235 c0_i32_172
  let c0_i32_173 : BitVec 32 := 0#32
  let v238 : BitVec 1 := Scalar.cmpi .slt v234 c0_i32_173
  let v239 : BitVec 1 := Scalar.xori v237 v238
  let c0_i32_171 : BitVec 32 := 0#32
  let v236 : BitVec 1 := Scalar.cmpi .ne v235 c0_i32_171
  let v240 : BitVec 1 := Scalar.andi v239 v236
  let v241 : BitVec 32 := Scalar.addi v235 v234
  let v242 : BitVec 32 := Scalar.select v240 v241 v235
  ![v242.toNat]
def k0_off2 (k0_t1 : Fin k0_t1_loop.trips) : Fin 3 → Nat :=
  let c0_i32_21 : BitVec 32 := 0#32
  let c1_i32_22 : BitVec 32 := 1#32
  let arg19 : BitVec 32 := Scf.iv c0_i32_21 c1_i32_22 k0_t1
  let c1_i32_160 : BitVec 32 := 1#32
  let v221 : BitVec 32 := Scalar.addi arg19 c1_i32_160
  let c2_i32_162 : BitVec 32 := 2#32
  let c0_i32_163 : BitVec 32 := 0#32
  let v223 : BitVec 1 := Scalar.cmpi .eq c2_i32_162 c0_i32_163
  let c1_i32_164 : BitVec 32 := 1#32
  let v224 : BitVec 32 := Scalar.select v223 c1_i32_164 c2_i32_162
  let v225 : BitVec 32 := Scalar.remsi v221 v224
  let c0_i32_166 : BitVec 32 := 0#32
  let v227 : BitVec 1 := Scalar.cmpi .slt v225 c0_i32_166
  let c0_i32_167 : BitVec 32 := 0#32
  let v228 : BitVec 1 := Scalar.cmpi .slt v224 c0_i32_167
  let v229 : BitVec 1 := Scalar.xori v227 v228
  let c0_i32_165 : BitVec 32 := 0#32
  let v226 : BitVec 1 := Scalar.cmpi .ne v225 c0_i32_165
  let v230 : BitVec 1 := Scalar.andi v229 v226
  let v231 : BitVec 32 := Scalar.addi v225 v224
  let v232 : BitVec 32 := Scalar.select v230 v231 v225
  let c0_i32_174 : BitVec 32 := 0#32
  let c0_i32_175 : BitVec 32 := 0#32
  ![v232.toNat, 0, 0]
def k0_off3 (k0_t1 : Fin k0_t1_loop.trips) : Fin 2 → Nat :=
  let c0_i32_176 : BitVec 32 := 0#32
  let c0_i32_21 : BitVec 32 := 0#32
  let c1_i32_22 : BitVec 32 := 1#32
  let arg19 : BitVec 32 := Scf.iv c0_i32_21 c1_i32_22 k0_t1
  let c1_i32_160 : BitVec 32 := 1#32
  let v221 : BitVec 32 := Scalar.addi arg19 c1_i32_160
  let c1024_i32_161 : BitVec 32 := 1024#32
  let v222 : BitVec 32 := Scalar.muli v221 c1024_i32_161
  ![0, v222.toNat]
def k0_off4 (k0_t1 : Fin k0_t1_loop.trips) : Fin 1 → Nat :=
  let c0_i32_21 : BitVec 32 := 0#32
  let c1_i32_22 : BitVec 32 := 1#32
  let arg19 : BitVec 32 := Scf.iv c0_i32_21 c1_i32_22 k0_t1
  let c2_i32_100 : BitVec 32 := 2#32
  let c0_i32_101 : BitVec 32 := 0#32
  let v121 : BitVec 1 := Scalar.cmpi .eq c2_i32_100 c0_i32_101
  let c1_i32_102 : BitVec 32 := 1#32
  let v122 : BitVec 32 := Scalar.select v121 c1_i32_102 c2_i32_100
  let v123 : BitVec 32 := Scalar.remsi arg19 v122
  let c0_i32_104 : BitVec 32 := 0#32
  let v125 : BitVec 1 := Scalar.cmpi .slt v123 c0_i32_104
  let c0_i32_105 : BitVec 32 := 0#32
  let v126 : BitVec 1 := Scalar.cmpi .slt v122 c0_i32_105
  let v127 : BitVec 1 := Scalar.xori v125 v126
  let c0_i32_103 : BitVec 32 := 0#32
  let v124 : BitVec 1 := Scalar.cmpi .ne v123 c0_i32_103
  let v128 : BitVec 1 := Scalar.andi v127 v124
  let v129 : BitVec 32 := Scalar.addi v123 v122
  let v130 : BitVec 32 := Scalar.select v128 v129 v123
  ![v130.toNat]
def k0_off5 (k0_t1 : Fin k0_t1_loop.trips) : Fin 3 → Nat :=
  let c0_i32_21 : BitVec 32 := 0#32
  let c1_i32_22 : BitVec 32 := 1#32
  let arg19 : BitVec 32 := Scf.iv c0_i32_21 c1_i32_22 k0_t1
  let c2_i32_94 : BitVec 32 := 2#32
  let c0_i32_95 : BitVec 32 := 0#32
  let v111 : BitVec 1 := Scalar.cmpi .eq c2_i32_94 c0_i32_95
  let c1_i32_96 : BitVec 32 := 1#32
  let v112 : BitVec 32 := Scalar.select v111 c1_i32_96 c2_i32_94
  let v113 : BitVec 32 := Scalar.remsi arg19 v112
  let c0_i32_98 : BitVec 32 := 0#32
  let v115 : BitVec 1 := Scalar.cmpi .slt v113 c0_i32_98
  let c0_i32_99 : BitVec 32 := 0#32
  let v116 : BitVec 1 := Scalar.cmpi .slt v112 c0_i32_99
  let v117 : BitVec 1 := Scalar.xori v115 v116
  let c0_i32_97 : BitVec 32 := 0#32
  let v114 : BitVec 1 := Scalar.cmpi .ne v113 c0_i32_97
  let v118 : BitVec 1 := Scalar.andi v117 v114
  let v119 : BitVec 32 := Scalar.addi v113 v112
  let v120 : BitVec 32 := Scalar.select v118 v119 v113
  let c0_i32_106 : BitVec 32 := 0#32
  let c0_i32_107 : BitVec 32 := 0#32
  ![v120.toNat, 0, 0]
def k0_off6 (k0_t1 : Fin k0_t1_loop.trips) : Fin 2 → Nat :=
  let c0_i32_108 : BitVec 32 := 0#32
  let c0_i32_21 : BitVec 32 := 0#32
  let c1_i32_22 : BitVec 32 := 1#32
  let arg19 : BitVec 32 := Scf.iv c0_i32_21 c1_i32_22 k0_t1
  let c1024_i32 : BitVec 32 := 1024#32
  let v110 : BitVec 32 := Scalar.muli arg19 c1024_i32
  ![0, v110.toNat]
def k0_off7 (k0_t1 : Fin k0_t1_loop.trips) : Fin 3 → Nat :=
  let c0_i32_21 : BitVec 32 := 0#32
  let c1_i32_22 : BitVec 32 := 1#32
  let arg19 : BitVec 32 := Scf.iv c0_i32_21 c1_i32_22 k0_t1
  let c2_i32_85 : BitVec 32 := 2#32
  let c0_i32_86 : BitVec 32 := 0#32
  let v96 : BitVec 1 := Scalar.cmpi .eq c2_i32_85 c0_i32_86
  let c1_i32_87 : BitVec 32 := 1#32
  let v97 : BitVec 32 := Scalar.select v96 c1_i32_87 c2_i32_85
  let v98 : BitVec 32 := Scalar.remsi arg19 v97
  let c0_i32_89 : BitVec 32 := 0#32
  let v100 : BitVec 1 := Scalar.cmpi .slt v98 c0_i32_89
  let c0_i32_90 : BitVec 32 := 0#32
  let v101 : BitVec 1 := Scalar.cmpi .slt v97 c0_i32_90
  let v102 : BitVec 1 := Scalar.xori v100 v101
  let c0_i32_88 : BitVec 32 := 0#32
  let v99 : BitVec 1 := Scalar.cmpi .ne v98 c0_i32_88
  let v103 : BitVec 1 := Scalar.andi v102 v99
  let v104 : BitVec 32 := Scalar.addi v98 v97
  let v105 : BitVec 32 := Scalar.select v103 v104 v98
  let v138 : Index := Scalar.indexCast v105
  let c0_111 : Index := 0#32
  let c0_112 : Index := 0#32
  ![v138.toNat, 0, 0]
def k0_off8 (k0_t1 : Fin k0_t1_loop.trips) : Fin 3 → Nat :=
  let c0_i32_21 : BitVec 32 := 0#32
  let c1_i32_22 : BitVec 32 := 1#32
  let arg19 : BitVec 32 := Scf.iv c0_i32_21 c1_i32_22 k0_t1
  let c2_i32_85 : BitVec 32 := 2#32
  let c0_i32_86 : BitVec 32 := 0#32
  let v96 : BitVec 1 := Scalar.cmpi .eq c2_i32_85 c0_i32_86
  let c1_i32_87 : BitVec 32 := 1#32
  let v97 : BitVec 32 := Scalar.select v96 c1_i32_87 c2_i32_85
  let v98 : BitVec 32 := Scalar.remsi arg19 v97
  let c0_i32_89 : BitVec 32 := 0#32
  let v100 : BitVec 1 := Scalar.cmpi .slt v98 c0_i32_89
  let c0_i32_90 : BitVec 32 := 0#32
  let v101 : BitVec 1 := Scalar.cmpi .slt v97 c0_i32_90
  let v102 : BitVec 1 := Scalar.xori v100 v101
  let c0_i32_88 : BitVec 32 := 0#32
  let v99 : BitVec 1 := Scalar.cmpi .ne v98 c0_i32_88
  let v103 : BitVec 1 := Scalar.andi v102 v99
  let v104 : BitVec 32 := Scalar.addi v98 v97
  let v105 : BitVec 32 := Scalar.select v103 v104 v98
  let v162 : Index := Scalar.indexCast v105
  let c0_124 : Index := 0#32
  let c0_125 : Index := 0#32
  ![v162.toNat, 0, 0]
def k0_off9 (k0_t1 : Fin k0_t1_loop.trips) : Fin 2 → Nat :=
  let c0_i32_139 : BitVec 32 := 0#32
  let c0_i32_21 : BitVec 32 := 0#32
  let c1_i32_22 : BitVec 32 := 1#32
  let arg19 : BitVec 32 := Scf.iv c0_i32_21 c1_i32_22 k0_t1
  let c1024_i32_132 : BitVec 32 := 1024#32
  let v176 : BitVec 32 := Scalar.muli arg19 c1024_i32_132
  ![0, v176.toNat]
def k0_off10 (k0_t1 : Fin k0_t1_loop.trips) : Fin 3 → Nat :=
  let c0_i32_21 : BitVec 32 := 0#32
  let c1_i32_22 : BitVec 32 := 1#32
  let arg19 : BitVec 32 := Scf.iv c0_i32_21 c1_i32_22 k0_t1
  let c2_i32_126 : BitVec 32 := 2#32
  let c0_i32_127 : BitVec 32 := 0#32
  let v166 : BitVec 1 := Scalar.cmpi .eq c2_i32_126 c0_i32_127
  let c1_i32_128 : BitVec 32 := 1#32
  let v167 : BitVec 32 := Scalar.select v166 c1_i32_128 c2_i32_126
  let v168 : BitVec 32 := Scalar.remsi arg19 v167
  let c0_i32_130 : BitVec 32 := 0#32
  let v170 : BitVec 1 := Scalar.cmpi .slt v168 c0_i32_130
  let c0_i32_131 : BitVec 32 := 0#32
  let v171 : BitVec 1 := Scalar.cmpi .slt v167 c0_i32_131
  let v172 : BitVec 1 := Scalar.xori v170 v171
  let c0_i32_129 : BitVec 32 := 0#32
  let v169 : BitVec 1 := Scalar.cmpi .ne v168 c0_i32_129
  let v173 : BitVec 1 := Scalar.andi v172 v169
  let v174 : BitVec 32 := Scalar.addi v168 v167
  let v175 : BitVec 32 := Scalar.select v173 v174 v168
  let c0_i32_140 : BitVec 32 := 0#32
  let c0_i32_141 : BitVec 32 := 0#32
  ![v175.toNat, 0, 0]
def k0_cond2 (k0_t1 : Fin k0_t1_loop.trips) : BitVec 1 :=
  let c0_i32_21 : BitVec 32 := 0#32
  let c1_i32_22 : BitVec 32 := 1#32
  let arg19 : BitVec 32 := Scf.iv c0_i32_21 c1_i32_22 k0_t1
  let c3_i32_158 : BitVec 32 := 3#32
  let v218 : BitVec 1 := Scalar.cmpi .slt arg19 c3_i32_158
  let v219 : BitVec 32 := Scalar.extui v218
  let c0_i32_159 : BitVec 32 := 0#32
  let v220 : BitVec 1 := Scalar.cmpi .ne v219 c0_i32_159
  v220

def k0_off11 (k0_t1 : Fin k0_t1_loop.trips) : Fin 1 → Nat :=
  let c0_i32_21 : BitVec 32 := 0#32
  let c1_i32_22 : BitVec 32 := 1#32
  let arg19 : BitVec 32 := Scf.iv c0_i32_21 c1_i32_22 k0_t1
  ![arg19.toNat]
def k0_off12 (k0_t1 : Fin k0_t1_loop.trips) : Fin 2 → Nat :=
  let c0_i32_166 : BitVec 32 := 0#32
  let c0_i32_21 : BitVec 32 := 0#32
  let c1_i32_22 : BitVec 32 := 1#32
  let arg19 : BitVec 32 := Scf.iv c0_i32_21 c1_i32_22 k0_t1
  let c1024_i32_161 : BitVec 32 := 1024#32
  let v222 : BitVec 32 := Scalar.muli arg19 c1024_i32_161
  ![0, v222.toNat]
def k0_dev2 (d0 : Dev nD) : Nat :=
  let c0_i32_163 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_162 : BitVec 32 := 4#32
  let v223 : BitVec 32 := Scalar.muli v9 c4_i32_162
  let v224 : BitVec 32 := Scalar.addi c0_i32_163 v223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_164 : BitVec 32 := 2#32
  let v225 : BitVec 32 := Scalar.muli v5 c2_i32_164
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_165 : BitVec 32 := 1#32
  let v227 : BitVec 32 := Scalar.muli v8 c1_i32_165
  let v228 : BitVec 32 := Scalar.addi v226 v227
  v228.toNat
def k0_dev3 (d0 : Dev nD) : Nat :=
  let c0_i32_32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_31 : BitVec 32 := 4#32
  let v42 : BitVec 32 := Scalar.muli v9 c4_i32_31
  let v43 : BitVec 32 := Scalar.addi c0_i32_32 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v44 : BitVec 32 := Scalar.muli v5 c2_i32_33
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v46 : BitVec 32 := Scalar.muli v8 c1_i32_34
  let v47 : BitVec 32 := Scalar.addi v45 v46
  v47.toNat
@[reducible] def k0_t2_loop : Scf.Loop 32 :=
  let c3_i32 : BitVec 32 := 3#32
  let c13_i32 : BitVec 32 := 13#32
  let v48 : BitVec 32 := Scalar.addi c3_i32 c13_i32
  let c1_i32_35 : BitVec 32 := 1#32
  ⟨c3_i32, v48, c1_i32_35⟩
def k0_off13 (k0_t2 : Fin k0_t2_loop.trips) : Fin 1 → Nat :=
  let c3_i32 : BitVec 32 := 3#32
  let c1_i32_35 : BitVec 32 := 1#32
  let arg19 : BitVec 32 := Scf.iv c3_i32 c1_i32_35 k0_t2
  ![arg19.toNat]
def k0_off14 (k0_t2 : Fin k0_t2_loop.trips) : Fin 2 → Nat :=
  let c0_i32_90 : BitVec 32 := 0#32
  let c3_i32 : BitVec 32 := 3#32
  let c1_i32_35 : BitVec 32 := 1#32
  let arg19 : BitVec 32 := Scf.iv c3_i32 c1_i32_35 k0_t2
  let c1024_i32_85 : BitVec 32 := 1024#32
  let v97 : BitVec 32 := Scalar.muli arg19 c1024_i32_85
  ![0, v97.toNat]
def k0_dev4 (d0 : Dev nD) : Nat :=
  let c0_i32_87 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_86 : BitVec 32 := 4#32
  let v98 : BitVec 32 := Scalar.muli v9 c4_i32_86
  let v99 : BitVec 32 := Scalar.addi c0_i32_87 v98
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_88 : BitVec 32 := 2#32
  let v100 : BitVec 32 := Scalar.muli v5 c2_i32_88
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v102 : BitVec 32 := Scalar.muli v8 c1_i32_89
  let v103 : BitVec 32 := Scalar.addi v101 v102
  v103.toNat
@[reducible] def k0_t3_loop : Scf.Loop 32 :=
  let c0_i32_51 : BitVec 32 := 0#32
  let c16_i32_52 : BitVec 32 := 16#32
  let v69 : BitVec 32 := Scalar.addi c0_i32_51 c16_i32_52
  let c1_i32_53 : BitVec 32 := 1#32
  ⟨c0_i32_51, v69, c1_i32_53⟩
def k0_cond3 (k0_t3 : Fin k0_t3_loop.trips) : BitVec 1 :=
  let c0_i32_51 : BitVec 32 := 0#32
  let c1_i32_53 : BitVec 32 := 1#32
  let arg19 : BitVec 32 := Scf.iv c0_i32_51 c1_i32_53 k0_t3
  let c2_i32_91 : BitVec 32 := 2#32
  let v106 : BitVec 1 := Scalar.cmpi .sge arg19 c2_i32_91
  let v107 : BitVec 32 := Scalar.extui v106
  let c0_i32_92 : BitVec 32 := 0#32
  let v108 : BitVec 1 := Scalar.cmpi .ne v107 c0_i32_92
  v108

def k0_off15 (k0_t3 : Fin k0_t3_loop.trips) : Fin 1 → Nat :=
  let c0_i32_51 : BitVec 32 := 0#32
  let c1_i32_53 : BitVec 32 := 1#32
  let arg19 : BitVec 32 := Scf.iv c0_i32_51 c1_i32_53 k0_t3
  let c2_i32_85 : BitVec 32 := 2#32
  let c0_i32_86 : BitVec 32 := 0#32
  let v96 : BitVec 1 := Scalar.cmpi .eq c2_i32_85 c0_i32_86
  let c1_i32_87 : BitVec 32 := 1#32
  let v97 : BitVec 32 := Scalar.select v96 c1_i32_87 c2_i32_85
  let v98 : BitVec 32 := Scalar.remsi arg19 v97
  let c0_i32_89 : BitVec 32 := 0#32
  let v100 : BitVec 1 := Scalar.cmpi .slt v98 c0_i32_89
  let c0_i32_90 : BitVec 32 := 0#32
  let v101 : BitVec 1 := Scalar.cmpi .slt v97 c0_i32_90
  let v102 : BitVec 1 := Scalar.xori v100 v101
  let c0_i32_88 : BitVec 32 := 0#32
  let v99 : BitVec 1 := Scalar.cmpi .ne v98 c0_i32_88
  let v103 : BitVec 1 := Scalar.andi v102 v99
  let v104 : BitVec 32 := Scalar.addi v98 v97
  let v105 : BitVec 32 := Scalar.select v103 v104 v98
  ![v105.toNat]
def k0_off16 (d0 : Dev nD) (k0_t3 : Fin k0_t3_loop.trips) : Fin 2 → Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16384_i32 : BitVec 32 := 16384#32
  let v17 : BitVec 32 := Scalar.muli v2 c16384_i32
  let c0_i32_51 : BitVec 32 := 0#32
  let c1_i32_53 : BitVec 32 := 1#32
  let arg19 : BitVec 32 := Scf.iv c0_i32_51 c1_i32_53 k0_t3
  let c2_i32_107 : BitVec 32 := 2#32
  let v139 : BitVec 32 := Scalar.subi arg19 c2_i32_107
  let c1024_i32_108 : BitVec 32 := 1024#32
  let v140 : BitVec 32 := Scalar.muli v139 c1024_i32_108
  let v141 : BitVec 32 := Scalar.addi v17 v140
  ![0, v141.toNat]
def k0_off17 (k0_t3 : Fin k0_t3_loop.trips) : Fin 3 → Nat :=
  let c0_i32_51 : BitVec 32 := 0#32
  let c1_i32_53 : BitVec 32 := 1#32
  let arg19 : BitVec 32 := Scf.iv c0_i32_51 c1_i32_53 k0_t3
  let c2_i32_85 : BitVec 32 := 2#32
  let c0_i32_86 : BitVec 32 := 0#32
  let v96 : BitVec 1 := Scalar.cmpi .eq c2_i32_85 c0_i32_86
  let c1_i32_87 : BitVec 32 := 1#32
  let v97 : BitVec 32 := Scalar.select v96 c1_i32_87 c2_i32_85
  let v98 : BitVec 32 := Scalar.remsi arg19 v97
  let c0_i32_89 : BitVec 32 := 0#32
  let v100 : BitVec 1 := Scalar.cmpi .slt v98 c0_i32_89
  let c0_i32_90 : BitVec 32 := 0#32
  let v101 : BitVec 1 := Scalar.cmpi .slt v97 c0_i32_90
  let v102 : BitVec 1 := Scalar.xori v100 v101
  let c0_i32_88 : BitVec 32 := 0#32
  let v99 : BitVec 1 := Scalar.cmpi .ne v98 c0_i32_88
  let v103 : BitVec 1 := Scalar.andi v102 v99
  let v104 : BitVec 32 := Scalar.addi v98 v97
  let v105 : BitVec 32 := Scalar.select v103 v104 v98
  let c0_i32_110 : BitVec 32 := 0#32
  let c0_i32_111 : BitVec 32 := 0#32
  ![v105.toNat, 0, 0]
def k0_off18 (k0_t3 : Fin k0_t3_loop.trips) : Fin 1 → Nat :=
  let c0_i32_51 : BitVec 32 := 0#32
  let c1_i32_53 : BitVec 32 := 1#32
  let arg19 : BitVec 32 := Scf.iv c0_i32_51 c1_i32_53 k0_t3
  let c2_i32_85 : BitVec 32 := 2#32
  let c0_i32_86 : BitVec 32 := 0#32
  let v96 : BitVec 1 := Scalar.cmpi .eq c2_i32_85 c0_i32_86
  let c1_i32_87 : BitVec 32 := 1#32
  let v97 : BitVec 32 := Scalar.select v96 c1_i32_87 c2_i32_85
  let v98 : BitVec 32 := Scalar.remsi arg19 v97
  let c0_i32_89 : BitVec 32 := 0#32
  let v100 : BitVec 1 := Scalar.cmpi .slt v98 c0_i32_89
  let c0_i32_90 : BitVec 32 := 0#32
  let v101 : BitVec 1 := Scalar.cmpi .slt v97 c0_i32_90
  let v102 : BitVec 1 := Scalar.xori v100 v101
  let c0_i32_88 : BitVec 32 := 0#32
  let v99 : BitVec 1 := Scalar.cmpi .ne v98 c0_i32_88
  let v103 : BitVec 1 := Scalar.andi v102 v99
  let v104 : BitVec 32 := Scalar.addi v98 v97
  let v105 : BitVec 32 := Scalar.select v103 v104 v98
  ![v105.toNat]
def k0_off19 (k0_t3 : Fin k0_t3_loop.trips) : Fin 3 → Nat :=
  let c0_i32_51 : BitVec 32 := 0#32
  let c1_i32_53 : BitVec 32 := 1#32
  let arg19 : BitVec 32 := Scf.iv c0_i32_51 c1_i32_53 k0_t3
  let c2_i32_85 : BitVec 32 := 2#32
  let c0_i32_86 : BitVec 32 := 0#32
  let v96 : BitVec 1 := Scalar.cmpi .eq c2_i32_85 c0_i32_86
  let c1_i32_87 : BitVec 32 := 1#32
  let v97 : BitVec 32 := Scalar.select v96 c1_i32_87 c2_i32_85
  let v98 : BitVec 32 := Scalar.remsi arg19 v97
  let c0_i32_89 : BitVec 32 := 0#32
  let v100 : BitVec 1 := Scalar.cmpi .slt v98 c0_i32_89
  let c0_i32_90 : BitVec 32 := 0#32
  let v101 : BitVec 1 := Scalar.cmpi .slt v97 c0_i32_90
  let v102 : BitVec 1 := Scalar.xori v100 v101
  let c0_i32_88 : BitVec 32 := 0#32
  let v99 : BitVec 1 := Scalar.cmpi .ne v98 c0_i32_88
  let v103 : BitVec 1 := Scalar.andi v102 v99
  let v104 : BitVec 32 := Scalar.addi v98 v97
  let v105 : BitVec 32 := Scalar.select v103 v104 v98
  let c0_i32_93 : BitVec 32 := 0#32
  let c0_i32_94 : BitVec 32 := 0#32
  ![v105.toNat, 0, 0]
def k0_off20 (k0_t3 : Fin k0_t3_loop.trips) : Fin 2 → Nat :=
  let c0_i32_95 : BitVec 32 := 0#32
  let c0_i32_51 : BitVec 32 := 0#32
  let c1_i32_53 : BitVec 32 := 1#32
  let arg19 : BitVec 32 := Scf.iv c0_i32_51 c1_i32_53 k0_t3
  let c1024_i32 : BitVec 32 := 1024#32
  let v109 : BitVec 32 := Scalar.muli arg19 c1024_i32
  ![0, v109.toNat]
def k0_off21 (k0_t3 : Fin k0_t3_loop.trips) : Fin 3 → Nat :=
  let c0_i32_51 : BitVec 32 := 0#32
  let c1_i32_53 : BitVec 32 := 1#32
  let arg19 : BitVec 32 := Scf.iv c0_i32_51 c1_i32_53 k0_t3
  let c2_i32_85 : BitVec 32 := 2#32
  let c0_i32_86 : BitVec 32 := 0#32
  let v96 : BitVec 1 := Scalar.cmpi .eq c2_i32_85 c0_i32_86
  let c1_i32_87 : BitVec 32 := 1#32
  let v97 : BitVec 32 := Scalar.select v96 c1_i32_87 c2_i32_85
  let v98 : BitVec 32 := Scalar.remsi arg19 v97
  let c0_i32_89 : BitVec 32 := 0#32
  let v100 : BitVec 1 := Scalar.cmpi .slt v98 c0_i32_89
  let c0_i32_90 : BitVec 32 := 0#32
  let v101 : BitVec 1 := Scalar.cmpi .slt v97 c0_i32_90
  let v102 : BitVec 1 := Scalar.xori v100 v101
  let c0_i32_88 : BitVec 32 := 0#32
  let v99 : BitVec 1 := Scalar.cmpi .ne v98 c0_i32_88
  let v103 : BitVec 1 := Scalar.andi v102 v99
  let v104 : BitVec 32 := Scalar.addi v98 v97
  let v105 : BitVec 32 := Scalar.select v103 v104 v98
  let v120 : Index := Scalar.indexCast v105
  let c0_99 : Index := 0#32
  let c0_100 : Index := 0#32
  ![v120.toNat, 0, 0]
def k0_off22 (d0 : Dev nD) (k0_t3 : Fin k0_t3_loop.trips) : Fin 2 → Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16384_i32 : BitVec 32 := 16384#32
  let v17 : BitVec 32 := Scalar.muli v2 c16384_i32
  let c0_i32_51 : BitVec 32 := 0#32
  let c1_i32_53 : BitVec 32 := 1#32
  let arg19 : BitVec 32 := Scf.iv c0_i32_51 c1_i32_53 k0_t3
  let c1024_i32_103 : BitVec 32 := 1024#32
  let v132 : BitVec 32 := Scalar.muli arg19 c1024_i32_103
  let v133 : BitVec 32 := Scalar.addi v17 v132
  ![0, v133.toNat]
def k0_off23 (d0 : Dev nD) (c14336_i32 : BitVec 32) : Fin 2 → Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16384_i32 : BitVec 32 := 16384#32
  let v17 : BitVec 32 := Scalar.muli v2 c16384_i32
  let v70 : BitVec 32 := Scalar.addi v17 c14336_i32
  ![0, v70.toNat]
@[reducible] def k0_t4_loop : Scf.Loop 32 :=
  let c0_i32_65 : BitVec 32 := 0#32
  let c16_i32_66 : BitVec 32 := 16#32
  let v82 : BitVec 32 := Scalar.addi c0_i32_65 c16_i32_66
  let c1_i32_67 : BitVec 32 := 1#32
  ⟨c0_i32_65, v82, c1_i32_67⟩
def k0_off24 (k0_t4 : Fin k0_t4_loop.trips) : Fin 1 → Nat :=
  let c0_i32_65 : BitVec 32 := 0#32
  let c1_i32_67 : BitVec 32 := 1#32
  let arg19 : BitVec 32 := Scf.iv c0_i32_65 c1_i32_67 k0_t4
  ![arg19.toNat]
def k0_off25 (k0_t4 : Fin k0_t4_loop.trips) : Fin 2 → Nat :=
  let c0_i32_96 : BitVec 32 := 0#32
  let c0_i32_65 : BitVec 32 := 0#32
  let c1_i32_67 : BitVec 32 := 1#32
  let arg19 : BitVec 32 := Scf.iv c0_i32_65 c1_i32_67 k0_t4
  let c1024_i32_91 : BitVec 32 := 1024#32
  let v107 : BitVec 32 := Scalar.muli arg19 c1024_i32_91
  ![0, v107.toNat]
def k0_cond4 (k0_t4 : Fin k0_t4_loop.trips) : BitVec 1 :=
  let c0_i32_65 : BitVec 32 := 0#32
  let c1_i32_67 : BitVec 32 := 1#32
  let arg19 : BitVec 32 := Scf.iv c0_i32_65 c1_i32_67 k0_t4
  let c2_i32_98 : BitVec 32 := 2#32
  let v118 : BitVec 1 := Scalar.cmpi .sge arg19 c2_i32_98
  let v119 : BitVec 32 := Scalar.extui v118
  let c0_i32_99 : BitVec 32 := 0#32
  let v120 : BitVec 1 := Scalar.cmpi .ne v119 c0_i32_99
  v120

def k0_off26 (k0_t4 : Fin k0_t4_loop.trips) : Fin 1 → Nat :=
  let c0_i32_65 : BitVec 32 := 0#32
  let c1_i32_67 : BitVec 32 := 1#32
  let arg19 : BitVec 32 := Scf.iv c0_i32_65 c1_i32_67 k0_t4
  let c2_i32_85 : BitVec 32 := 2#32
  let c0_i32_86 : BitVec 32 := 0#32
  let v96 : BitVec 1 := Scalar.cmpi .eq c2_i32_85 c0_i32_86
  let c1_i32_87 : BitVec 32 := 1#32
  let v97 : BitVec 32 := Scalar.select v96 c1_i32_87 c2_i32_85
  let v98 : BitVec 32 := Scalar.remsi arg19 v97
  let c0_i32_89 : BitVec 32 := 0#32
  let v100 : BitVec 1 := Scalar.cmpi .slt v98 c0_i32_89
  let c0_i32_90 : BitVec 32 := 0#32
  let v101 : BitVec 1 := Scalar.cmpi .slt v97 c0_i32_90
  let v102 : BitVec 1 := Scalar.xori v100 v101
  let c0_i32_88 : BitVec 32 := 0#32
  let v99 : BitVec 1 := Scalar.cmpi .ne v98 c0_i32_88
  let v103 : BitVec 1 := Scalar.andi v102 v99
  let v104 : BitVec 32 := Scalar.addi v98 v97
  let v105 : BitVec 32 := Scalar.select v103 v104 v98
  ![v105.toNat]
def k0_off27 (d0 : Dev nD) (k0_t4 : Fin k0_t4_loop.trips) : Fin 2 → Nat :=
  let c0_i32_117 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c16384_i32_10 : BitVec 32 := 16384#32
  let v19 : BitVec 32 := Scalar.muli v18 c16384_i32_10
  let c0_i32_65 : BitVec 32 := 0#32
  let c1_i32_67 : BitVec 32 := 1#32
  let arg19 : BitVec 32 := Scf.iv c0_i32_65 c1_i32_67 k0_t4
  let c2_i32_115 : BitVec 32 := 2#32
  let v151 : BitVec 32 := Scalar.subi arg19 c2_i32_115
  let c1024_i32_116 : BitVec 32 := 1024#32
  let v152 : BitVec 32 := Scalar.muli v151 c1024_i32_116
  let v153 : BitVec 32 := Scalar.addi v19 v152
  ![0, v153.toNat]
def k0_off28 (k0_t4 : Fin k0_t4_loop.trips) : Fin 3 → Nat :=
  let c0_i32_65 : BitVec 32 := 0#32
  let c1_i32_67 : BitVec 32 := 1#32
  let arg19 : BitVec 32 := Scf.iv c0_i32_65 c1_i32_67 k0_t4
  let c2_i32_85 : BitVec 32 := 2#32
  let c0_i32_86 : BitVec 32 := 0#32
  let v96 : BitVec 1 := Scalar.cmpi .eq c2_i32_85 c0_i32_86
  let c1_i32_87 : BitVec 32 := 1#32
  let v97 : BitVec 32 := Scalar.select v96 c1_i32_87 c2_i32_85
  let v98 : BitVec 32 := Scalar.remsi arg19 v97
  let c0_i32_89 : BitVec 32 := 0#32
  let v100 : BitVec 1 := Scalar.cmpi .slt v98 c0_i32_89
  let c0_i32_90 : BitVec 32 := 0#32
  let v101 : BitVec 1 := Scalar.cmpi .slt v97 c0_i32_90
  let v102 : BitVec 1 := Scalar.xori v100 v101
  let c0_i32_88 : BitVec 32 := 0#32
  let v99 : BitVec 1 := Scalar.cmpi .ne v98 c0_i32_88
  let v103 : BitVec 1 := Scalar.andi v102 v99
  let v104 : BitVec 32 := Scalar.addi v98 v97
  let v105 : BitVec 32 := Scalar.select v103 v104 v98
  let c0_i32_118 : BitVec 32 := 0#32
  let c0_i32_119 : BitVec 32 := 0#32
  ![v105.toNat, 0, 0]
def k0_off29 (k0_t4 : Fin k0_t4_loop.trips) : Fin 1 → Nat :=
  let c0_i32_65 : BitVec 32 := 0#32
  let c1_i32_67 : BitVec 32 := 1#32
  let arg19 : BitVec 32 := Scf.iv c0_i32_65 c1_i32_67 k0_t4
  let c2_i32_85 : BitVec 32 := 2#32
  let c0_i32_86 : BitVec 32 := 0#32
  let v96 : BitVec 1 := Scalar.cmpi .eq c2_i32_85 c0_i32_86
  let c1_i32_87 : BitVec 32 := 1#32
  let v97 : BitVec 32 := Scalar.select v96 c1_i32_87 c2_i32_85
  let v98 : BitVec 32 := Scalar.remsi arg19 v97
  let c0_i32_89 : BitVec 32 := 0#32
  let v100 : BitVec 1 := Scalar.cmpi .slt v98 c0_i32_89
  let c0_i32_90 : BitVec 32 := 0#32
  let v101 : BitVec 1 := Scalar.cmpi .slt v97 c0_i32_90
  let v102 : BitVec 1 := Scalar.xori v100 v101
  let c0_i32_88 : BitVec 32 := 0#32
  let v99 : BitVec 1 := Scalar.cmpi .ne v98 c0_i32_88
  let v103 : BitVec 1 := Scalar.andi v102 v99
  let v104 : BitVec 32 := Scalar.addi v98 v97
  let v105 : BitVec 32 := Scalar.select v103 v104 v98
  ![v105.toNat]
def k0_off30 (k0_t4 : Fin k0_t4_loop.trips) : Fin 3 → Nat :=
  let c0_i32_65 : BitVec 32 := 0#32
  let c1_i32_67 : BitVec 32 := 1#32
  let arg19 : BitVec 32 := Scf.iv c0_i32_65 c1_i32_67 k0_t4
  let c2_i32_85 : BitVec 32 := 2#32
  let c0_i32_86 : BitVec 32 := 0#32
  let v96 : BitVec 1 := Scalar.cmpi .eq c2_i32_85 c0_i32_86
  let c1_i32_87 : BitVec 32 := 1#32
  let v97 : BitVec 32 := Scalar.select v96 c1_i32_87 c2_i32_85
  let v98 : BitVec 32 := Scalar.remsi arg19 v97
  let c0_i32_89 : BitVec 32 := 0#32
  let v100 : BitVec 1 := Scalar.cmpi .slt v98 c0_i32_89
  let c0_i32_90 : BitVec 32 := 0#32
  let v101 : BitVec 1 := Scalar.cmpi .slt v97 c0_i32_90
  let v102 : BitVec 1 := Scalar.xori v100 v101
  let c0_i32_88 : BitVec 32 := 0#32
  let v99 : BitVec 1 := Scalar.cmpi .ne v98 c0_i32_88
  let v103 : BitVec 1 := Scalar.andi v102 v99
  let v104 : BitVec 32 := Scalar.addi v98 v97
  let v105 : BitVec 32 := Scalar.select v103 v104 v98
  let c0_i32_101 : BitVec 32 := 0#32
  let c0_i32_102 : BitVec 32 := 0#32
  ![v105.toNat, 0, 0]
def k0_off31 (k0_t4 : Fin k0_t4_loop.trips) : Fin 3 → Nat :=
  let c0_i32_65 : BitVec 32 := 0#32
  let c1_i32_67 : BitVec 32 := 1#32
  let arg19 : BitVec 32 := Scf.iv c0_i32_65 c1_i32_67 k0_t4
  let c2_i32_85 : BitVec 32 := 2#32
  let c0_i32_86 : BitVec 32 := 0#32
  let v96 : BitVec 1 := Scalar.cmpi .eq c2_i32_85 c0_i32_86
  let c1_i32_87 : BitVec 32 := 1#32
  let v97 : BitVec 32 := Scalar.select v96 c1_i32_87 c2_i32_85
  let v98 : BitVec 32 := Scalar.remsi arg19 v97
  let c0_i32_89 : BitVec 32 := 0#32
  let v100 : BitVec 1 := Scalar.cmpi .slt v98 c0_i32_89
  let c0_i32_90 : BitVec 32 := 0#32
  let v101 : BitVec 1 := Scalar.cmpi .slt v97 c0_i32_90
  let v102 : BitVec 1 := Scalar.xori v100 v101
  let c0_i32_88 : BitVec 32 := 0#32
  let v99 : BitVec 1 := Scalar.cmpi .ne v98 c0_i32_88
  let v103 : BitVec 1 := Scalar.andi v102 v99
  let v104 : BitVec 32 := Scalar.addi v98 v97
  let v105 : BitVec 32 := Scalar.select v103 v104 v98
  let v132 : Index := Scalar.indexCast v105
  let c0_107 : Index := 0#32
  let c0_108 : Index := 0#32
  ![v132.toNat, 0, 0]
def k0_off32 (d0 : Dev nD) (k0_t4 : Fin k0_t4_loop.trips) : Fin 2 → Nat :=
  let c0_i32_112 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c16384_i32_10 : BitVec 32 := 16384#32
  let v19 : BitVec 32 := Scalar.muli v18 c16384_i32_10
  let c0_i32_65 : BitVec 32 := 0#32
  let c1_i32_67 : BitVec 32 := 1#32
  let arg19 : BitVec 32 := Scf.iv c0_i32_65 c1_i32_67 k0_t4
  let c1024_i32_111 : BitVec 32 := 1024#32
  let v144 : BitVec 32 := Scalar.muli arg19 c1024_i32_111
  let v145 : BitVec 32 := Scalar.addi v19 v144
  ![0, v145.toNat]
def k0_off33 (d0 : Dev nD) (c14336_i32_69 : BitVec 32) : Fin 2 → Nat :=
  let c0_i32_72 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c16384_i32_10 : BitVec 32 := 16384#32
  let v19 : BitVec 32 := Scalar.muli v18 c16384_i32_10
  let v83 : BitVec 32 := Scalar.addi v19 c14336_i32_69
  ![0, v83.toNat]
@[reducible] def k0_t5_loop : Scf.Loop 32 :=
  let c0_i32_81 : BitVec 32 := 0#32
  let c16_i32_82 : BitVec 32 := 16#32
  let v95 : BitVec 32 := Scalar.addi c0_i32_81 c16_i32_82
  let c1_i32_83 : BitVec 32 := 1#32
  ⟨c0_i32_81, v95, c1_i32_83⟩
def k0_off34 (k0_t5 : Fin k0_t5_loop.trips) : Fin 1 → Nat :=
  let c0_i32_81 : BitVec 32 := 0#32
  let c1_i32_83 : BitVec 32 := 1#32
  let arg19 : BitVec 32 := Scf.iv c0_i32_81 c1_i32_83 k0_t5
  ![arg19.toNat]
def k0_off35 (k0_t5 : Fin k0_t5_loop.trips) : Fin 2 → Nat :=
  let c0_i32_87 : BitVec 32 := 0#32
  let c0_i32_81 : BitVec 32 := 0#32
  let c1_i32_83 : BitVec 32 := 1#32
  let arg19 : BitVec 32 := Scf.iv c0_i32_81 c1_i32_83 k0_t5
  let c1024_i32 : BitVec 32 := 1024#32
  let v96 : BitVec 32 := Scalar.muli arg19 c1024_i32
  ![0, v96.toNat]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x2048 : Shape := ⟨2, ![1024, 2048]⟩
abbrev S2048x32768 : Shape := ⟨2, ![2048, 32768]⟩
abbrev S1024x32768 : Shape := ⟨2, ![1024, 32768]⟩
abbrev S_ : Shape := ⟨0, ![]⟩
abbrev S1024 : Shape := ⟨1, ![1024]⟩
abbrev S1024x1 : Shape := ⟨2, ![1024, 1]⟩

abbrev nBuf : Space → Nat
  | .hbm => 14
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024x32768, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x32768, .f32⟩
  | .hbm, ⟨7, _⟩ => ⟨S1024x32768, .f32⟩
  | .hbm, ⟨8, _⟩ => ⟨S1024x32768, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S1024x32768, .f32⟩
  | .hbm, ⟨13, _⟩ => ⟨S1024x32768, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Bands.lean ====
/-
# Bands of a buffer

A buffer cut along one axis: the elements whose coordinate there lies in an interval, and the assertion that a buffer is held
on such a band, split and joined at a coordinate. Used for the column slices of the logits and of the result, and for the two
slots of the double buffers.
-/
module

public import Idealize.ShloMosaic.Lib.Pipeline.Kit
public import Idealize.ShloMosaic.Lib.ValueLayout
public import Idealize.ShloMosaic.Lib.Tactic

@[expose] public section

noncomputable section

namespace Cert.Bands

open Idealize.ShloMosaic
open Idealize.SL Idealize.SL.RA Idealize.SL.BI
open scoped Idealize.SL.BI
open Idealize.SL.BI.BIBase Idealize.SL.BI.Laws Idealize.SL.ProofMode Idealize.SL.Sem

/-- The elements whose coordinate `col` lies in `[lo, hi)`. -/
def band {X : Type} [Fintype X] (col : X → ℕ) (lo hi : ℕ) : Finset X := Finset.univ.filter fun i => lo ≤ col i ∧ col i < hi

section Sets
variable {X : Type} [Fintype X] [DecidableEq X] {col : X → ℕ} {lo mid hi : ℕ}

theorem mem_band {i : X} : i ∈ band col lo hi ↔ lo ≤ col i ∧ col i < hi := by simp [band]

theorem band_union (h₁ : lo ≤ mid) (h₂ : mid ≤ hi) : band col lo hi = band col lo mid ∪ band col mid hi := by
  ext i; simp only [mem_band, Finset.mem_union]; omega

theorem band_disjoint : Disjoint (band col lo mid) (band col mid hi) := by
  rw [Finset.disjoint_left]; intro i; simp only [mem_band]; omega

theorem band_empty (h : hi ≤ lo) : band col lo hi = ∅ := by
  ext i; simp only [mem_band, Finset.notMem_empty, iff_false]; omega

theorem band_univ (h : ∀ i, lo ≤ col i ∧ col i < hi) : band col lo hi = Finset.univ := by
  ext i; simp only [mem_band, Finset.mem_univ, iff_true]; exact h i

end Sets

section Held

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {ℓ : Loc nD τ sig} {col : Idx ℓ → ℕ} {lo mid hi : ℕ} {q : PosShare TreeShare} {f g : Buf Val ℓ}

/-- A band held is its two parts held. -/
theorem pts_split (h₁ : lo ≤ mid) (h₂ : mid ≤ hi) :
    (ℓ ↦[band col lo hi]{q} f : sProp 𝕄) ⊣⊢ iprop((ℓ ↦[band col lo mid]{q} f) ∗ ℓ ↦[band col mid hi]{q} f) := by
  rw [band_union h₁ h₂]; exact pointsTo_union band_disjoint

/-- An empty band is nothing. -/
theorem pts_none (h : hi ≤ lo) : (ℓ ↦[band col lo hi]{q} f : sProp 𝕄) = iprop(emp) := by
  rw [band_empty h]; exact pointsTo_empty

/-- Two adjacent bands at any contents are one band at some contents. -/
theorem pts_join (h₁ : lo ≤ mid) (h₂ : mid ≤ hi) :
    iprop((ℓ ↦[band col lo mid]{q} f) ∗ ℓ ↦[band col mid hi]{q} g) ⊢ (iprop(∃ k : Buf Val ℓ, ℓ ↦[band col lo hi]{q} k) : sProp 𝕄) := by
  rw [band_union h₁ h₂]
  iintro H
  iexists _
  iapply (pointsTo_join band_disjoint) $$ H

/-- The whole buffer is the band of every coordinate. -/
theorem pts_whole (h : ∀ i : Idx ℓ, lo ≤ col i ∧ col i < hi) : (ℓ ↦[band col lo hi]{q} f : sProp 𝕄) = ℓ ↦{q} f := by
  rw [band_univ h]

end Held

end Cert.Bands

end
-- ==== Proof.KernelIdeal.Base.lean ====
/-
# The kernel's buffers, semaphores and contents

The places the kernel reads and writes, as coordinates: a device's peer across the first mesh axis, the semaphore under each
array element, which elements of a buffer a slice names, and what each buffer holds, as functions of the arguments.
-/
module

public import proofs.«01_k».proof.Proof.Bands
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.ViewIndex
public import Idealize.ShloMosaic.Lib.Transfers
public import Idealize.ShloMosaic.Lib.Tactic

@[expose] public section

noncomputable section

namespace Cert.KernelIdeal.Sharded

open Cert.KernelIdeal Cert.KernelIdeal.Gen Cert.Bands

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)
open Idealize.ShloMosaic.Pipeline (Dat Cfg Window BodyObligation cellOf)

variable {F : FTy → Type} [FloatOps F]

/-! ## The resource algebra -/

/-- The staging pipeline's cells beside the kernel's own cells, and the counters of its local transfers. -/
abbrev UB : Type := URounds (GSem nD τ sig) Unit × Counters
abbrev UU : Type := UR sig nD τ × UB

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := (Emb.inl : Emb _ UB).trans embR
abbrev EC : UEmb Counters (MT nD τ sig Unit (Elt F) ℕ UU ℕ) := countersEmb

abbrev 𝒱₀ : Variants := Variants.none

/-! ## The peer -/

set_option backward.proofsInPublic true in
/-- The device across the first mesh axis. -/
def peer (c : Dev nD) : Dev nD := ⟨(c.val + 4) % 8, Nat.mod_lt _ (by decide)⟩

theorem peer_peer (c : Dev nD) : peer (peer c) = c := by revert c; decide
theorem peer_ne (c : Dev nD) : peer c ≠ c := by revert c; decide
theorem peer_half (c : Dev nD) : (peer c).val / 4 = 1 - c.val / 4 := by revert c; decide
theorem half_lt (c : Dev nD) : c.val / 4 < 2 := by revert c; decide

theorem peer_val (c : Dev nD) : (2 * ((c.val / 2) % 2) + (c.val % 2) + 4) - 4 * (c.val / 4) = (peer c).val := by revert c; decide

theorem dev1_eq (c : Dev nD) : (⟨k0_dev1 c, k0_dev1_lt c⟩ : Dev nD) = peer c := Fin.ext ((k0_dev1_eq c).trans (peer_val c))
theorem dev2_eq (c : Dev nD) (h : k0_dev2 c < nD) : (⟨k0_dev2 c, h⟩ : Dev nD) = peer c := Fin.ext ((k0_dev2_eq c).trans (peer_val c))
theorem dev3_eq (c : Dev nD) : (⟨k0_dev3 c, k0_dev3_lt c⟩ : Dev nD) = peer c := Fin.ext ((k0_dev3_eq c).trans (peer_val c))
theorem dev4_eq (c : Dev nD) : (⟨k0_dev4 c, k0_dev4_lt c⟩ : Dev nD) = peer c := Fin.ext ((k0_dev4_eq c).trans (peer_val c))

/-! ## The semaphores -/

set_option backward.proofsInPublic true in
/-- The DMA semaphore of a number. -/
def dsem (n : ℕ) : DmaSem sig := ⟨n % 43, Nat.mod_lt _ (by decide)⟩

abbrev barS : Sem sig := (SemArray.scalar (sig.barrier 0 rfl) : Sems sig S_).sem

abbrev sem2 (a : DmaSems sig S2) (off : Fin 1 → ℕ) (inb : ∀ i, off i + S1.size i ≤ S2.size i) : DmaSem sig :=
  ((a.slice (Rect.unit (s := S2) off S1.size inb)).squeeze S_ squeezes_S1_S_).sem
abbrev sem16 (a : DmaSems sig S16) (off : Fin 1 → ℕ) (inb : ∀ i, off i + S1.size i ≤ S16.size i) : DmaSem sig :=
  ((a.slice (Rect.unit (s := S16) off S1.size inb)).squeeze S_ squeezes_S1_S_).sem

section Sems
variable {off : Fin 1 → ℕ} {b : ℕ}

/-- An element of an array of consecutive semaphores, sliced out and squeezed, is the semaphore so far from the array's first. -/
theorem consecutive_slice {n B N : ℕ} (hB : B + (⟨1, ![N]⟩ : Shape).numel ≤ n) (h : off = ![b])
    (inb : ∀ i, off i + (![1] : Fin 1 → ℕ) i ≤ (⟨1, ![N]⟩ : Shape).size i) (sq : (⟨1, ![1]⟩ : Shape).Squeezes S_) :
    ((((SemArray.consecutive B (⟨1, ![N]⟩ : Shape) hB : SemArray (Fin n) _).slice
      (Rect.unit (s := (⟨1, ![N]⟩ : Shape)) off ![1] inb)).squeeze S_ sq).sem).val = B + b := by
  subst h
  show B + ((⟨1, ![N]⟩ : Shape).rowMajor _).val = B + b
  rw [Shape.rowMajor_val_one]
  have hj : ∀ j : (⟨1, ![1]⟩ : Shape).Idx, B + (b + 1 * (j 0).val) = B + b := fun j => by
    have h1 : (j 0).val < 1 := (j 0).isLt
    omega
  exact hj _

theorem dsem_of {q : DmaSem sig} {n : ℕ} (hn : n < 43) (h : q.val = n) : q = dsem n :=
  Fin.ext (h.trans (Nat.mod_eq_of_lt hn).symm)

theorem wSem_eq (h : off = ![b]) (inb) : sem2 cc0_scratch6 off inb = dsem (1 + b) :=
  dsem_of (by subst h; have := inb 0; simp at this; omega) (consecutive_slice _ h inb _)
theorem stSem_eq (h : off = ![b]) (inb) : sem2 cc0_scratch7 off inb = dsem (3 + b) :=
  dsem_of (by subst h; have := inb 0; simp at this; omega) (consecutive_slice _ h inb _)
theorem rdSem_eq (h : off = ![b]) (inb) : sem2 cc0_scratch12 off inb = dsem (39 + b) :=
  dsem_of (by subst h; have := inb 0; simp at this; omega) (consecutive_slice _ h inb _)
theorem wrSem_eq (h : off = ![b]) (inb) : sem2 cc0_scratch13 off inb = dsem (41 + b) :=
  dsem_of (by subst h; have := inb 0; simp at this; omega) (consecutive_slice _ h inb _)
theorem sendSem_eq (h : off = ![b]) (inb) : sem16 cc0_scratch8 off inb = dsem (5 + b) :=
  dsem_of (by subst h; have := inb 0; simp at this; omega) (consecutive_slice _ h inb _)
theorem recvSem_eq (h : off = ![b]) (inb) : sem16 cc0_scratch9 off inb = dsem (21 + b) :=
  dsem_of (by subst h; have := inb 0; simp at this; omega) (consecutive_slice _ h inb _)
theorem msSendSem_eq : (cc0_scratch10).sem = dsem 37 := rfl
theorem msRecvSem_eq : (cc0_scratch11).sem = dsem 38 := rfl

end Sems

/-! ## The slices -/

abbrev wM : Memref sig .tc .hbm S2048x16384 .f32 := Memref.whole main_arg1
abbrev oM : Memref sig .tc .hbm S1024x32768 .f32 := Memref.whole main_v1_0
abbrev lM : Memref sig .tc .hbm S1024x16384 .f32 := Memref.whole main_v1_1
abbrev rM : Memref sig .tc .hbm S1024x16384 .f32 := Memref.whole main_v1_2
abbrev wbM : Memref sig .tc .vmem S2x2048x1024 .f32 := Memref.whole cc0_scratch0
abbrev lbM : Memref sig .tc .vmem S2x1024x1024 .f32 := Memref.whole cc0_scratch1

abbrev wSl (off : Fin 2 → ℕ) (inb : ∀ a, off a + S2048x1024.size a ≤ S2048x16384.size a) : Memref sig .tc .hbm S2048x1024 .f32 :=
  wM.slice (Rect.unit (s := S2048x16384) off S2048x1024.size inb) (fun _ => rfl)
abbrev oSl (off : Fin 2 → ℕ) (inb : ∀ a, off a + S1024x1024.size a ≤ S1024x32768.size a) : Memref sig .tc .hbm S1024x1024 .f32 :=
  oM.slice (Rect.unit (s := S1024x32768) off S1024x1024.size inb) (fun _ => rfl)
abbrev lSl (off : Fin 2 → ℕ) (inb : ∀ a, off a + S1024x1024.size a ≤ S1024x16384.size a) : Memref sig .tc .hbm S1024x1024 .f32 :=
  lM.slice (Rect.unit (s := S1024x16384) off S1024x1024.size inb) (fun _ => rfl)
abbrev rSl (off : Fin 2 → ℕ) (inb : ∀ a, off a + S1024x1024.size a ≤ S1024x16384.size a) : Memref sig .tc .hbm S1024x1024 .f32 :=
  rM.slice (Rect.unit (s := S1024x16384) off S1024x1024.size inb) (fun _ => rfl)
abbrev wbSl (off : Fin 3 → ℕ) (inb : ∀ a, off a + S1x2048x1024.size a ≤ S2x2048x1024.size a) : Memref sig .tc .vmem S2048x1024 .f32 :=
  (wbM.slice (Rect.unit (s := S2x2048x1024) off S1x2048x1024.size inb) (fun _ => rfl)).squeeze S2048x1024 squeezes_S1x2048x1024_S2048x1024
abbrev lbSl (off : Fin 3 → ℕ) (inb : ∀ a, off a + S1x1024x1024.size a ≤ S2x1024x1024.size a) : Memref sig .tc .vmem S1024x1024 .f32 :=
  (lbM.slice (Rect.unit (s := S2x1024x1024) off S1x1024x1024.size inb) (fun _ => rfl)).squeeze S1024x1024 squeezes_S1x1024x1024_S1024x1024

/-- The columns of a two-dimensional array, and the slots of a three-dimensional one. -/
abbrev col {A B : ℕ} (i : (⟨2, ![A, B]⟩ : Shape).Idx) : ℕ := (i 1).val
abbrev slot {A B D : ℕ} (i : (⟨3, ![A, B, D]⟩ : Shape).Idx) : ℕ := (i 0).val

theorem unit_cols {A B C o : ℕ} (inb : ∀ a, (![0, o] : Fin 2 → ℕ) a + (![A, C] : Fin 2 → ℕ) a ≤ (⟨2, ![A, B]⟩ : Shape).size a) :
    (Rect.unit (s := (⟨2, ![A, B]⟩ : Shape)) ![0, o] ![A, C] inb).set = band col o (o + C) := by
  ext i
  rw [Rect.mem_set_unit, mem_band]
  constructor
  · intro h; exact h 1
  · intro h a
    match a with
    | ⟨0, _⟩ => exact ⟨Nat.zero_le _, by have := (i 0).isLt; simpa using this⟩
    | ⟨1, _⟩ => exact h

theorem unit_slot {A B b : ℕ} (inb : ∀ a, (![b, 0, 0] : Fin 3 → ℕ) a + (![1, A, B] : Fin 3 → ℕ) a ≤ (⟨3, ![2, A, B]⟩ : Shape).size a) :
    (Rect.unit (s := (⟨3, ![2, A, B]⟩ : Shape)) ![b, 0, 0] ![1, A, B] inb).set = band slot b (b + 1) := by
  ext i
  rw [Rect.mem_set_unit, mem_band]
  constructor
  · intro h; exact h 0
  · intro h a
    match a with
    | ⟨0, _⟩ => exact h
    | ⟨1, _⟩ => exact ⟨Nat.zero_le _, by have := (i 1).isLt; simpa using this⟩
    | ⟨2, _⟩ => exact ⟨Nat.zero_le _, by have := (i 2).isLt; simpa using this⟩

section Sets
variable {off : Fin 2 → ℕ} {o : ℕ} {off3 : Fin 3 → ℕ} {b : ℕ}

theorem wSl_set (h : off = ![0, o]) (inb) : (wSl off inb).view.set = band (col (A := 2048) (B := 16384)) o (o + 1024) := by
  subst h; exact (View.set_slice_whole _ _).trans (unit_cols (A := 2048) (B := 16384) (C := 1024) inb)
theorem oSl_set (h : off = ![0, o]) (inb) : (oSl off inb).view.set = band (col (A := 1024) (B := 32768)) o (o + 1024) := by
  subst h; exact (View.set_slice_whole _ _).trans (unit_cols (A := 1024) (B := 32768) (C := 1024) inb)
theorem lSl_set (h : off = ![0, o]) (inb) : (lSl off inb).view.set = band (col (A := 1024) (B := 16384)) o (o + 1024) := by
  subst h; exact (View.set_slice_whole _ _).trans (unit_cols (A := 1024) (B := 16384) (C := 1024) inb)
theorem rSl_set (h : off = ![0, o]) (inb) : (rSl off inb).view.set = band (col (A := 1024) (B := 16384)) o (o + 1024) := by
  subst h; exact (View.set_slice_whole _ _).trans (unit_cols (A := 1024) (B := 16384) (C := 1024) inb)
theorem wbSl_set (h : off3 = ![b, 0, 0]) (inb) : (wbSl off3 inb).view.set = band (slot (A := 2) (B := 2048) (D := 1024)) b (b + 1) := by
  subst h
  exact ((View.set_reshape _ _).trans (View.set_slice_whole _ _)).trans (unit_slot (A := 2048) (B := 1024) inb)
theorem lbSl_set (h : off3 = ![b, 0, 0]) (inb) : (lbSl off3 inb).view.set = band (slot (A := 2) (B := 1024) (D := 1024)) b (b + 1) := by
  subst h
  exact ((View.set_reshape _ _).trans (View.set_slice_whole _ _)).trans (unit_slot (A := 1024) (B := 1024) inb)

end Sets

/-! ## Contents by coordinates -/

/-- A two-dimensional array given by its entries; the slots of a double buffer, each holding columns `1024 k …` of one. -/
def mat {A B : ℕ} (G : ℕ → ℕ → F .f32) : (⟨2, ![A, B]⟩ : Shape).Idx → F .f32 := fun i => G (i 0).val (i 1).val
def slab {C A B : ℕ} (G : ℕ → ℕ → F .f32) (k : ℕ) : (⟨3, ![C, A, B]⟩ : Shape).Idx → F .f32 := fun i => G (i 1).val (1024 * k + (i 2).val)

section Reads
variable {off : Fin 2 → ℕ} {o : ℕ} {off3 : Fin 3 → ℕ} {b k : ℕ} (G : ℕ → ℕ → F .f32)

theorem wSl_read (h : off = ![0, o]) (inb) (x : S2048x1024.Idx) :
    (wSl off inb).view.read (Elt F) (mat G) x = G (x 0).val (o + (x 1).val) := by
  subst h
  show G (0 + 1 * (x 0).val) (o + 1 * (x 1).val) = _
  simp only [Nat.zero_add, Nat.one_mul]
theorem oSl_read (h : off = ![0, o]) (inb) (x : S1024x1024.Idx) :
    (oSl off inb).view.read (Elt F) (mat G) x = G (x 0).val (o + (x 1).val) := by
  subst h
  show G (0 + 1 * (x 0).val) (o + 1 * (x 1).val) = _
  simp only [Nat.zero_add, Nat.one_mul]
theorem lSl_read (h : off = ![0, o]) (inb) (x : S1024x1024.Idx) :
    (lSl off inb).view.read (Elt F) (mat G) x = G (x 0).val (o + (x 1).val) := by
  subst h
  show G (0 + 1 * (x 0).val) (o + 1 * (x 1).val) = _
  simp only [Nat.zero_add, Nat.one_mul]
theorem rSl_read (h : off = ![0, o]) (inb) (x : S1024x1024.Idx) :
    (rSl off inb).view.read (Elt F) (mat G) x = G (x 0).val (o + (x 1).val) := by
  subst h
  show G (0 + 1 * (x 0).val) (o + 1 * (x 1).val) = _
  simp only [Nat.zero_add, Nat.one_mul]

theorem ix2_self {A B : ℕ} (x : (⟨2, ![A, B]⟩ : Shape).Idx) : x = ix2 (x 0) (x 1) := by
  funext a
  match a with
  | ⟨0, _⟩ => rfl
  | ⟨1, _⟩ => rfl

theorem wbSl_read (h : off3 = ![b, 0, 0]) (inb) (x : S2048x1024.Idx) :
    (wbSl off3 inb).view.read (Elt F) (slab G k) x = G (x 0).val (1024 * k + (x 1).val) := by
  subst h
  obtain ⟨p, q, rfl⟩ : ∃ p q, x = ix2 p q := ⟨x 0, x 1, ix2_self x⟩
  have e := reshapeEquiv_ix2_1ab (a := 2048) (b := 1024) squeezes_S1x2048x1024_S2048x1024.numel_eq p q
  have hj : ∀ j : S1x2048x1024.Idx, j = ix3 ⟨0, Nat.one_pos⟩ p q →
      G (0 + 1 * (j 1).val) (1024 * k + (0 + 1 * (j 2).val)) = G p.val (1024 * k + q.val) := by
    intro j hj; subst hj; simp only [Nat.zero_add, Nat.one_mul]
  exact hj _ e
theorem lbSl_read (h : off3 = ![b, 0, 0]) (inb) (x : S1024x1024.Idx) :
    (lbSl off3 inb).view.read (Elt F) (slab G k) x = G (x 0).val (1024 * k + (x 1).val) := by
  subst h
  obtain ⟨p, q, rfl⟩ : ∃ p q, x = ix2 p q := ⟨x 0, x 1, ix2_self x⟩
  have e := reshapeEquiv_ix2_1ab (a := 1024) (b := 1024) squeezes_S1x1024x1024_S1024x1024.numel_eq p q
  have hj : ∀ j : S1x1024x1024.Idx, j = ix3 ⟨0, Nat.one_pos⟩ p q →
      G (0 + 1 * (j 1).val) (1024 * k + (0 + 1 * (j 2).val)) = G p.val (1024 * k + q.val) := by
    intro j hj; subst hj; simp only [Nat.zero_add, Nat.one_mul]
  exact hj _ e

end Reads

end Cert.KernelIdeal.Sharded

end
-- ==== Proof.KernelIdeal.Values.lean ====
/-
# What the buffers hold

The contents the kernel computes, as functions of the launch memory: the running maximum and sum after each chunk, the
products of a half, the two devices' joint maximum and reciprocal sum, and the normalised result. Beside them, the offsets
the loops compute, in closed form.
-/
module

public import proofs.«01_k».proof.Proof.KernelIdeal.Base

@[expose] public section

noncomputable section

namespace Cert.KernelIdeal.Sharded

open Cert.KernelIdeal Cert.KernelIdeal.Gen Cert.Bands

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

/-! ## Offsets and conditions -/

theorem off1_eq (k : Fin k0_t1_loop.trips) : k0_off1 k = ![(k.val + 1) % 2] := by revert k; decide +kernel
theorem off2_eq (k : Fin k0_t1_loop.trips) : k0_off2 k = ![(k.val + 1) % 2, 0, 0] := by revert k; decide +kernel
theorem off4_eq (k : Fin k0_t1_loop.trips) : k0_off4 k = ![k.val % 2] := by revert k; decide +kernel
theorem off7_eq (k : Fin k0_t1_loop.trips) : k0_off7 k = ![k.val % 2, 0, 0] := by revert k; decide +kernel
theorem off8_eq (k : Fin k0_t1_loop.trips) : k0_off8 k = ![k.val % 2, 0, 0] := by revert k; decide +kernel
theorem off10_eq (k : Fin k0_t1_loop.trips) : k0_off10 k = ![k.val % 2, 0, 0] := by revert k; decide +kernel
theorem off15_eq (k : Fin k0_t3_loop.trips) : k0_off15 k = ![k.val % 2] := by revert k; decide +kernel
theorem off18_eq (k : Fin k0_t3_loop.trips) : k0_off18 k = ![k.val % 2] := by revert k; decide +kernel
theorem off19_eq (k : Fin k0_t3_loop.trips) : k0_off19 k = ![k.val % 2, 0, 0] := by revert k; decide +kernel
theorem off21_eq (k : Fin k0_t3_loop.trips) : k0_off21 k = ![k.val % 2, 0, 0] := by revert k; decide +kernel
theorem off26_eq (k : Fin k0_t4_loop.trips) : k0_off26 k = ![k.val % 2] := by revert k; decide +kernel
theorem off29_eq (k : Fin k0_t4_loop.trips) : k0_off29 k = ![k.val % 2] := by revert k; decide +kernel
theorem off30_eq (k : Fin k0_t4_loop.trips) : k0_off30 k = ![k.val % 2, 0, 0] := by revert k; decide +kernel
theorem off31_eq (k : Fin k0_t4_loop.trips) : k0_off31 k = ![k.val % 2, 0, 0] := by revert k; decide +kernel

theorem cond1_iff (k : Fin k0_t1_loop.trips) : k0_cond1 k = 1#1 ↔ k.val + 1 < 16 := by revert k; decide +kernel
theorem cond2_iff (k : Fin k0_t1_loop.trips) : k0_cond2 k = 1#1 ↔ k.val < 3 := by revert k; decide +kernel
theorem cond3_iff (k : Fin k0_t3_loop.trips) : k0_cond3 k = 1#1 ↔ 2 ≤ k.val := by revert k; decide +kernel
theorem cond4_iff (k : Fin k0_t4_loop.trips) : k0_cond4 k = 1#1 ↔ 2 ≤ k.val := by revert k; decide +kernel

theorem trips1 : k0_t1_loop.trips = 16 := by decide +kernel
theorem trips2 : k0_t2_loop.trips = 13 := by decide +kernel
theorem trips3 : k0_t3_loop.trips = 16 := by decide +kernel
theorem trips4 : k0_t4_loop.trips = 16 := by decide +kernel
theorem trips5 : k0_t5_loop.trips = 16 := by decide +kernel

/-- The first output column of a device's own half, and of its peer's. -/
def ownB (c : Dev nD) : ℕ := 16384 * (c.val / 4)
def otherB (c : Dev nD) : ℕ := 16384 * (1 - c.val / 4)

theorem off3_at (k : Fin k0_t1_loop.trips) : k0_off3 k = ![0, 1024 * (k.val + 1)] := by
  rw [k0_off3_eq]; congr 1
theorem off14_at (k : Fin k0_t2_loop.trips) : k0_off14 k = ![0, 1024 * (k.val + 3)] := by
  rw [k0_off14_eq]; congr 1
theorem off22_at (c : Dev nD) (k : Fin k0_t3_loop.trips) : k0_off22 c k = ![0, ownB c + 1024 * k.val] := k0_off22_eq c k
theorem off32_at (c : Dev nD) (k : Fin k0_t4_loop.trips) : k0_off32 c k = ![0, otherB c + 1024 * k.val] := by
  rw [k0_off32_eq]
  have h := half_lt c
  unfold otherB
  congr 2
  omega

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A matrix given by its chunks of 1024 columns. -/
def ofChunks (P : ℕ → FVec F S1x1024x1024 .f32) : ℕ → ℕ → F .f32 := fun p q =>
  P (q / 1024) (ix3 ⟨0, Nat.one_pos⟩ ⟨p % 1024, Nat.mod_lt _ (by decide)⟩ ⟨q % 1024, Nat.mod_lt _ (by decide)⟩)

omit [FloatOps F] in
theorem slab_ofChunks (P : ℕ → FVec F S1x1024x1024 .f32) (k : ℕ) : (slab (C := 1) (A := 1024) (B := 1024) (ofChunks P) k) = P k := by
  funext x
  have h0 : (x 0).val < 1 := (x 0).isLt
  have h1 : (x 1).val < 1024 := (x 1).isLt
  have h2 : (x 2).val < 1024 := (x 2).isLt
  unfold slab ofChunks
  have e1 : (1024 * k + (x 2).val) / 1024 = k := by omega
  have e2 : (1024 * k + (x 2).val) % 1024 = (x 2).val := by omega
  have e3 : (x 1).val % 1024 = (x 1).val := Nat.mod_eq_of_lt h1
  rw [e1]
  congr 1
  funext a
  match a with
  | ⟨0, _⟩ => exact Fin.ext (by show 0 = (x 0).val; omega)
  | ⟨1, _⟩ => exact Fin.ext e3
  | ⟨2, _⟩ => exact Fin.ext e2

/-- Device `c`'s block of `x`, as staged. -/
def xv (c : Dev nD) : Vec F S1024x2048 .f32 := (win0_0.blk (0 : Fin 1)).view.read (Elt F) ((s₀ m ρ).mem ((c : Thread nD τ).loc main_arg0))

/-- The entries of device `c`'s block of the weights. -/
def Wn (c : Dev nD) (p q : ℕ) : F .f32 :=
  m ((c : Thread nD τ).loc main_arg1) (ix2 (⟨p % 2048, Nat.mod_lt _ (by decide)⟩ : Fin 2048) (⟨q % 16384, Nat.mod_lt _ (by decide)⟩ : Fin 16384))

omit [FloatOps F] in
theorem mat_Wn (c : Dev nD) : (mat (A := 2048) (B := 16384) (Wn m c) : Buf (Elt F) ((c : Thread nD τ).loc main_arg1)) = m ((c : Thread nD τ).loc main_arg1) := by
  funext i
  have h0 : (i 0).val < 2048 := (i 0).isLt
  have h1 : (i 1).val < 16384 := (i 1).isLt
  unfold mat Wn
  congr 1
  funext a
  match a with
  | ⟨0, _⟩ => exact Fin.ext (Nat.mod_eq_of_lt h0)
  | ⟨1, _⟩ => exact Fin.ext (Nat.mod_eq_of_lt h1)

/-- Chunk `k` of the weights. -/
abbrev wv (c : Dev nD) (k : ℕ) : Vec F S1x2048x1024 .f32 := slab (C := 1) (A := 2048) (B := 1024) (Wn m c) k

/-- The products of device `c`'s half. -/
def Lg (c : Dev nD) : ℕ → ℕ → F .f32 := ofChunks fun k => k0_pay6 (xv m ρ c) (wv m c k)

/-- The running maximum and the running sum after `k` chunks. -/
def mst (c : Dev nD) : ℕ → Vec F S1024x1 .f32
  | 0 => k0_pay8
  | k + 1 => k0_pay5 (xv m ρ c) (wv m c k) (mst c k)
def sst (c : Dev nD) : ℕ → Vec F S1024x1 .f32
  | 0 => k0_pay9
  | k + 1 => k0_pay4 (xv m ρ c) (wv m c k) (mst m ρ c k) (sst c k)

/-- The joint maximum and the reciprocal of the joint sum. -/
def gm (c : Dev nD) : FVec F S1024x1 .f32 := k0_pay12 (mst m ρ c 16) (mst m ρ (peer c) 16)
def iv (c : Dev nD) : FVec F S1024x1 .f32 := k0_pay13 (mst m ρ c 16) (sst m ρ c 16) (mst m ρ (peer c) 16) (sst m ρ (peer c) 16)

/-- A half, normalised on device `c`. -/
def Nm (c : Dev nD) (G : ℕ → ℕ → F .f32) : ℕ → ℕ → F .f32 := ofChunks fun k => k0_pay7 (gm m ρ c) (iv m ρ c) (slab G k)

/-- The result on device `c`: its own half normalised, and its peer's. -/
def Out (c : Dev nD) (p q : ℕ) : F .f32 :=
  if q / 16384 = c.val / 4 then Nm m ρ c (Lg m ρ c) p (q % 16384) else Nm m ρ c (Lg m ρ (peer c)) p (q % 16384)

theorem Out_own (c : Dev nD) {p q : ℕ} (hq : q < 16384) : Out m ρ c p (ownB c + q) = Nm m ρ c (Lg m ρ c) p q := by
  have e1 : (ownB c + q) / 16384 = c.val / 4 := by unfold ownB; omega
  have e2 : (ownB c + q) % 16384 = q := by unfold ownB; omega
  unfold Out; rw [if_pos e1, e2]
theorem Out_other (c : Dev nD) {p q : ℕ} (hq : q < 16384) : Out m ρ c p (otherB c + q) = Nm m ρ c (Lg m ρ (peer c)) p q := by
  have h := half_lt c
  have e1 : ¬ (otherB c + q) / 16384 = c.val / 4 := by unfold otherB; omega
  have e2 : (otherB c + q) % 16384 = q := by unfold otherB; omega
  unfold Out; rw [if_neg e1, e2]

/-- The two columns a device sends its peer: the maximum and the sum, the rest whatever was there. -/
def msT (M S : Vec F S1024x1 .f32) (f : S1024x8.Idx → F .f32) : S1024x8.Idx → F .f32 := fun i =>
  if (i 1).val = 0 then M (ix2 (i 0) ⟨0, Nat.one_pos⟩) else if (i 1).val = 1 then S (ix2 (i 0) ⟨0, Nat.one_pos⟩) else f i

/-! ## Accesses -/

section Access
variable {off3 : Fin 3 → ℕ} {b k : ℕ} (G : ℕ → ℕ → F .f32)

abbrev wbR (off3 : Fin 3 → ℕ) (inb : ∀ a, off3 a + S1x2048x1024.size a ≤ S2x2048x1024.size a) : Rect S2x2048x1024 :=
  Rect.unit (s := S2x2048x1024) off3 S1x2048x1024.size inb
abbrev lbR (off3 : Fin 3 → ℕ) (inb : ∀ a, off3 a + S1x1024x1024.size a ≤ S2x1024x1024.size a) : Rect S2x1024x1024 :=
  Rect.unit (s := S2x1024x1024) off3 S1x1024x1024.size inb

omit [FloatOps F] in
theorem wbR_set (h : off3 = ![b, 0, 0]) (inb) : (wbM.access (wbR off3 inb)).set = band (slot (A := 2) (B := 2048) (D := 1024)) b (b + 1) := by
  subst h; exact (View.set_slice_whole _ _).trans (unit_slot (A := 2048) (B := 1024) inb)
omit [FloatOps F] in
theorem lbR_set (h : off3 = ![b, 0, 0]) (inb) : (lbM.access (lbR off3 inb)).set = band (slot (A := 2) (B := 1024) (D := 1024)) b (b + 1) := by
  subst h; exact (View.set_slice_whole _ _).trans (unit_slot (A := 1024) (B := 1024) inb)
omit [FloatOps F] in
theorem wbR_read (h : off3 = ![b, 0, 0]) (inb) : (wbM.access (wbR off3 inb)).read (Elt F) (slab G k) = slab (C := 1) (A := 2048) (B := 1024) G k := by
  subst h; funext x
  show G (0 + 1 * (x 1).val) (1024 * k + (0 + 1 * (x 2).val)) = G (x 1).val (1024 * k + (x 2).val)
  simp only [Nat.zero_add, Nat.one_mul]
omit [FloatOps F] in
theorem lbR_read (h : off3 = ![b, 0, 0]) (inb) : (lbM.access (lbR off3 inb)).read (Elt F) (slab G k) = slab (C := 1) (A := 1024) (B := 1024) G k := by
  subst h; funext x
  show G (0 + 1 * (x 1).val) (1024 * k + (0 + 1 * (x 2).val)) = G (x 1).val (1024 * k + (x 2).val)
  simp only [Nat.zero_add, Nat.one_mul]

end Access

abbrev msM : Memref sig .tc .vmem S1024x8 .f32 := Memref.whole cc0_scratch4
abbrev mrM : Memref sig .tc .vmem S1024x8 .f32 := Memref.whole cc0_scratch5
abbrev msR (off : Fin 2 → ℕ) (inb : ∀ a, off a + S1024x1.size a ≤ S1024x8.size a) : Rect S1024x8 := Rect.unit (s := S1024x8) off S1024x1.size inb

omit [FloatOps F] in
theorem ix2_col0 (x : S1024x1.Idx) : (ix2 (x 0) ⟨0, Nat.one_pos⟩ : S1024x1.Idx) = x := by
  have h1 : (x 1).val < 1 := (x 1).isLt
  funext a
  match a with
  | ⟨0, _⟩ => rfl
  | ⟨1, _⟩ => exact Fin.ext (by show 0 = (x 1).val; omega)

section Pair
variable (M S : Vec F S1024x1 .f32) (f : S1024x8.Idx → F .f32)

omit [FloatOps F] in
theorem msT_at0 (x : S1024x1.Idx) (i : S1024x8.Idx) (h0 : (i 0).val = (x 0).val) (h1 : (i 1).val = 0) : msT M S f i = M x := by
  unfold msT; rw [if_pos h1]
  exact congrArg M ((congrArg (fun a : Fin 1024 => (ix2 a ⟨0, Nat.one_pos⟩ : S1024x1.Idx)) (Fin.ext h0)).trans (ix2_col0 x))
omit [FloatOps F] in
theorem msT_at1 (x : S1024x1.Idx) (i : S1024x8.Idx) (h0 : (i 0).val = (x 0).val) (h1 : (i 1).val = 1) : msT M S f i = S x := by
  unfold msT; rw [if_neg (by omega), if_pos h1]
  exact congrArg S ((congrArg (fun a : Fin 1024 => (ix2 a ⟨0, Nat.one_pos⟩ : S1024x1.Idx)) (Fin.ext h0)).trans (ix2_col0 x))

omit [FloatOps F] in
theorem ms_read0 (inb) : (msM.access (msR ![0, 0] inb)).read (Elt F) (msT M S f) = M := by
  funext x
  have h1 : (x 1).val < 1 := (x 1).isLt
  exact msT_at0 M S f x _ (by show 0 + 1 * (x 0).val = _; omega) (by show 0 + 1 * (x 1).val = _; omega)
omit [FloatOps F] in
theorem ms_read1 (inb) : (msM.access (msR ![0, 1] inb)).read (Elt F) (msT M S f) = S := by
  funext x
  have h1 : (x 1).val < 1 := (x 1).isLt
  exact msT_at1 M S f x _ (by show 0 + 1 * (x 0).val = _; omega) (by show 1 + 1 * (x 1).val = _; omega)
omit [FloatOps F] in
theorem mr_read0 (inb) : (mrM.access (msR ![0, 0] inb)).read (Elt F) (msT M S f) = M := by
  funext x
  have h1 : (x 1).val < 1 := (x 1).isLt
  exact msT_at0 M S f x _ (by show 0 + 1 * (x 0).val = _; omega) (by show 0 + 1 * (x 1).val = _; omega)
omit [FloatOps F] in
theorem mr_read1 (inb) : (mrM.access (msR ![0, 1] inb)).read (Elt F) (msT M S f) = S := by
  funext x
  have h1 : (x 1).val < 1 := (x 1).isLt
  exact msT_at1 M S f x _ (by show 0 + 1 * (x 0).val = _; omega) (by show 1 + 1 * (x 1).val = _; omega)
omit [FloatOps F] in
theorem ms_set0 (inb) : (msM.access (msR ![0, 0] inb)).set = band (col (A := 1024) (B := 8)) 0 1 :=
  (View.set_slice_whole _ _).trans (unit_cols (A := 1024) (B := 8) (C := 1) inb)
omit [FloatOps F] in
theorem ms_set1 (inb) : (msM.access (msR ![0, 1] inb)).set = band (col (A := 1024) (B := 8)) 1 2 :=
  (View.set_slice_whole _ _).trans (unit_cols (A := 1024) (B := 8) (C := 1) inb)

end Pair

end Cert.KernelIdeal.Sharded

end
-- ==== Proof.KernelIdeal.Protocol.lean ====
/-
# The protocol between the devices

Each device exchanges with its peer across the first mesh axis. A device signals its peer's barrier, giving away its landing
buffers; sixteen transfers carry a half of the products, chunk by chunk, each into its own receive cell; one more carries
the running maximum and sum. Every cell has one round of one duty.
-/
module

public import proofs.«01_k».proof.Proof.KernelIdeal.Values

@[expose] public section

noncomputable section

namespace Cert.KernelIdeal.Sharded

open Cert.KernelIdeal Cert.KernelIdeal.Gen Cert.Bands

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Amounts -/

abbrev NW : ℕ := (wbSl ![0, 0, 0] inb_S2x2048x1024_S1x2048x1024_0_0_0).view.dmaCredit
abbrev NB : ℕ := (lbSl ![0, 0, 0] inb_S2x1024x1024_S1x1024x1024_0_0_0).view.dmaCredit
abbrev NL : ℕ := (lSl ![0, 0] (by decide)).view.dmaCredit
abbrev NR : ℕ := (rSl ![0, 0] (by decide)).view.dmaCredit
abbrev NO : ℕ := (oSl ![0, 0] (by decide)).view.dmaCredit
abbrev NM : ℕ := mrM.view.dmaCredit

theorem NW_pos : 0 < NW := View.dmaCredit_pos _ (by decide)
theorem NB_pos : 0 < NB := View.dmaCredit_pos _ (by decide)
theorem NL_pos : 0 < NL := View.dmaCredit_pos _ (by decide)
theorem NR_pos : 0 < NR := View.dmaCredit_pos _ (by decide)
theorem NO_pos : 0 < NO := View.dmaCredit_pos _ (by decide)
theorem NM_pos : 0 < NM := View.dmaCredit_pos _ (by decide)

/-- A slice of the one products buffer takes the credit the other's does, and the one pair buffer the other's. -/
theorem NL_eq : NL = NR := by decide +kernel
theorem NM_eq : msM.view.dmaCredit = NM := by decide +kernel

/-! ## Pieces of the buffers -/

/-- Columns `lo ≤ · < hi` of a device's weights, of its own products, of its peer's, and of the result. -/
def wB (c : Dev nD) (lo hi : ℕ) : sProp 𝕄 :=
  (c : Thread nD τ).loc main_arg1 ↦[band (col (A := 2048) (B := 16384)) lo hi]{fullShare} mat (Wn m c)
def lB (c : Dev nD) (q : PosShare TreeShare) (lo hi : ℕ) (G : ℕ → ℕ → F .f32) : sProp 𝕄 :=
  (c : Thread nD τ).loc main_v1_1 ↦[band (col (A := 1024) (B := 16384)) lo hi]{q} mat G
def lAny (c : Dev nD) (lo hi : ℕ) : sProp 𝕄 :=
  iprop(∃ f, (c : Thread nD τ).loc main_v1_1 ↦[band (col (A := 1024) (B := 16384)) lo hi]{fullShare} f)
def rB (c : Dev nD) (lo hi : ℕ) (G : ℕ → ℕ → F .f32) : sProp 𝕄 :=
  (c : Thread nD τ).loc main_v1_2 ↦[band (col (A := 1024) (B := 16384)) lo hi]{fullShare} mat G
def rAny (c : Dev nD) (lo hi : ℕ) : sProp 𝕄 :=
  iprop(∃ f, (c : Thread nD τ).loc main_v1_2 ↦[band (col (A := 1024) (B := 16384)) lo hi]{fullShare} f)
def oB (c : Dev nD) (lo hi : ℕ) : sProp 𝕄 :=
  (c : Thread nD τ).loc main_v1_0 ↦[band (col (A := 1024) (B := 32768)) lo hi]{fullShare} mat (Out m ρ c)
def oAny (c : Dev nD) (lo hi : ℕ) : sProp 𝕄 :=
  iprop(∃ f, (c : Thread nD τ).loc main_v1_0 ↦[band (col (A := 1024) (B := 32768)) lo hi]{fullShare} f)

/-- A slot of the weights' double buffer, and of the products': anything, or chunk `k` of a matrix. -/
def wS (c : Dev nD) (b : ℕ) : sProp 𝕄 :=
  iprop(∃ f, (c : Thread nD τ).loc cc0_scratch0 ↦[band (slot (A := 2) (B := 2048) (D := 1024)) b (b + 1)]{fullShare} f)
def wD (c : Dev nD) (b k : ℕ) : sProp 𝕄 :=
  (c : Thread nD τ).loc cc0_scratch0 ↦[band (slot (A := 2) (B := 2048) (D := 1024)) b (b + 1)]{fullShare} slab (Wn m c) k
def lS (c : Dev nD) (b : ℕ) : sProp 𝕄 :=
  iprop(∃ f, (c : Thread nD τ).loc cc0_scratch1 ↦[band (slot (A := 2) (B := 1024) (D := 1024)) b (b + 1)]{fullShare} f)
def lD (c : Dev nD) (b : ℕ) (G : ℕ → ℕ → F .f32) (k : ℕ) : sProp 𝕄 :=
  (c : Thread nD τ).loc cc0_scratch1 ↦[band (slot (A := 2) (B := 1024) (D := 1024)) b (b + 1)]{fullShare} slab G k

/-- The pair a device sends, and the pair it receives. -/
def msP (c : Dev nD) : sProp 𝕄 := iprop(∃ f, (c : Thread nD τ).loc cc0_scratch4 ↦{fullShare} msT (mst m ρ c 16) (sst m ρ c 16) f)
def mrP (c : Dev nD) : sProp 𝕄 := iprop(∃ f, (c : Thread nD τ).loc cc0_scratch5 ↦{fullShare} msT (mst m ρ (peer c) 16) (sst m ρ (peer c) 16) f)
def mrAny (c : Dev nD) : sProp 𝕄 := iprop(∃ f, (c : Thread nD τ).loc cc0_scratch5 ↦{fullShare} f)

/-! ## The cells -/

abbrev gDma (c : Dev nD) (n : ℕ) : GSem nD τ sig := ((c : Thread nD τ), .dma (dsem n))
abbrev gBar (c : Dev nD) : GSem nD τ sig := ((c : Thread nD τ), .reg barS)

/-- The cells of a device: 16 send cells, 16 receive cells, the pair's send and receive cells, the barrier. -/
def csem (i : Fin 35) : SemLoc sig := if i.val < 34 then .dma (dsem (5 + i.val)) else .reg barS
def kcell (ck : Dev nD × Fin 35) : GSem nD τ sig := ((ck.1 : Thread nD τ), csem ck.2)

theorem kcell_dma (c : Dev nD) (n : ℕ) (hn : n < 34) : kcell (c, ⟨n, by omega⟩) = gDma c (5 + n) := by
  unfold kcell csem; rw [if_pos hn]
theorem kcell_bar (c : Dev nD) : kcell (c, ⟨34, by omega⟩) = gBar c := by
  unfold kcell csem; rw [if_neg (Nat.lt_irrefl 34)]

theorem dsem_val {n : ℕ} (hn : n < 43) : (dsem n).val = n := Nat.mod_eq_of_lt hn

/-- What a peer's barrier signal gives: its landing buffers, to be written. -/
def barPay (c : Dev nD) : sProp 𝕄 := iprop(rAny (peer c) 0 16384 ∗ mrAny (peer c))
def sendPay (c : Dev nD) (k : ℕ) : sProp 𝕄 := lB c (PosShare.left fullShare) (1024 * k) (1024 * k + 1024) (Lg m ρ c)
def recvPay (c : Dev nD) (k : ℕ) : sProp 𝕄 := rB c (1024 * k) (1024 * k + 1024) (Lg m ρ (peer c))

abbrev IsCell (g : GSem nD τ sig) : Prop := g.1.2 = .tc ∧ (match g.2 with | .reg q => q = barS | .dma q => 5 ≤ q.val ∧ q.val < 39)

def pay (d : Dev nD) : SemLoc sig → sProp 𝕄
  | .reg _ => barPay d
  | .dma q => if q.val < 21 then sendPay m ρ d (q.val - 5) else if q.val < 37 then recvPay m ρ d (q.val - 21)
      else if q.val = 37 then msP m ρ d else mrP m ρ d

def amt : SemLoc sig → ℕ
  | .reg _ => 1
  | .dma q => if q.val < 37 then NR else NM

open Classical in
def Rd : Rounds.Schedule (GSem nD τ sig) Unit 𝕄 where
  duties g r := if r = 0 ∧ IsCell g then {()} else ∅
  unitless _ := False
  amount g _ _ := amt g.2
  payload g _ _ := pay m ρ g.1.1 g.2
  amount_pos g _ _ _ := by
    rcases g with ⟨t, (q | q)⟩
    · exact Nat.one_pos
    · unfold amt; dsimp only; split
      · exact NR_pos
      · exact NM_pos

instance Rd_payload_storable (g : GSem nD τ sig) (r : ℕ) (d : Unit) : BI.Storable (upEmb : UEmb _ 𝕄) ((Rd (F := F) m ρ).payload g r d) := by
  show BI.Storable upEmb (pay m ρ g.1.1 g.2)
  unfold pay barPay sendPay recvPay msP mrP rAny mrAny lB rB
  (repeat' split) <;> infer_instance

section Sched
variable (c : Dev nD)

theorem duties_dma {n : ℕ} (h5 : 5 ≤ n) (hn : n < 39) : (Rd (F := F) m ρ).duties (gDma c n) 0 = {()} := by
  dsimp only [Rd]; exact if_pos ⟨rfl, rfl, by show 5 ≤ (dsem n).val ∧ (dsem n).val < 39; rw [dsem_val (by omega)]; exact ⟨h5, hn⟩⟩
theorem duties_bar : (Rd (F := F) m ρ).duties (gBar c) 0 = {()} := by
  dsimp only [Rd]; exact if_pos ⟨rfl, rfl, rfl⟩
theorem duties_later (g : GSem nD τ sig) : ∀ r, 1 ≤ r → (Rd (F := F) m ρ).duties g r = ∅ :=
  fun r hr => by dsimp only [Rd]; rw [if_neg fun h => by omega]

theorem amount_chunk {n : ℕ} (hn : n < 37) : (Rd (F := F) m ρ).amount (gDma c n) 0 () = NR := by
  dsimp only [Rd, amt]; rw [dsem_val (by omega), if_pos hn]
theorem amount_pair {n : ℕ} (h : 37 ≤ n) (hn : n < 43) : (Rd (F := F) m ρ).amount (gDma c n) 0 () = NM := by
  dsimp only [Rd, amt]; rw [dsem_val hn, if_neg (by omega)]
theorem amount_bar : (Rd (F := F) m ρ).amount (gBar c) 0 () = 1 := rfl

theorem expect_chunk {n : ℕ} (h5 : 5 ≤ n) (hn : n < 37) : (Rd (F := F) m ρ).expect (gDma c n) 0 = NR := by
  unfold Schedule.expect Schedule.amountOf; rw [duties_dma m ρ c h5 (by omega), Finset.sum_singleton, amount_chunk m ρ c hn]
theorem expect_pair {n : ℕ} (h : 37 ≤ n) (hn : n < 39) : (Rd (F := F) m ρ).expect (gDma c n) 0 = NM := by
  unfold Schedule.expect Schedule.amountOf; rw [duties_dma m ρ c (by omega) hn, Finset.sum_singleton, amount_pair m ρ c h (by omega)]
theorem expect_bar : (Rd (F := F) m ρ).expect (gBar c) 0 = 1 := by
  unfold Schedule.expect Schedule.amountOf; rw [duties_bar, Finset.sum_singleton, amount_bar]

theorem payload_send {k : ℕ} (hk : k < 16) : (Rd (F := F) m ρ).payload (gDma c (5 + k)) 0 () = sendPay m ρ c k := by
  dsimp only [Rd, pay]; rw [dsem_val (by omega), if_pos (by omega), Nat.add_sub_cancel_left]
theorem payload_recv {k : ℕ} (hk : k < 16) : (Rd (F := F) m ρ).payload (gDma c (21 + k)) 0 () = recvPay m ρ c k := by
  dsimp only [Rd, pay]; rw [dsem_val (by omega), if_neg (by omega), if_pos (by omega), Nat.add_sub_cancel_left]
theorem payload_ms : (Rd (F := F) m ρ).payload (gDma c 37) 0 () = msP m ρ c := by
  dsimp only [Rd, pay]; rw [dsem_val (by omega), if_neg (by omega), if_neg (by omega), if_pos rfl]
theorem payload_mr : (Rd (F := F) m ρ).payload (gDma c 38) 0 () = mrP m ρ c := by
  dsimp only [Rd, pay]; rw [dsem_val (by omega), if_neg (by omega), if_neg (by omega), if_neg (by omega)]
theorem payload_bar : (Rd (F := F) m ρ).payload (gBar c) 0 () = barPay c := rfl

/-- The rest of a cell's round, nothing taken yet, is its one payload. -/
theorem rest_dma {n : ℕ} (h5 : 5 ≤ n) (hn : n < 39) :
    bigSep ((Rd (F := F) m ρ).duties (gDma c n) 0 \ ∅) (fun d => (Rd (F := F) m ρ).payload (gDma c n) 0 d) = (Rd (F := F) m ρ).payload (gDma c n) 0 () := by
  rw [Finset.sdiff_empty, duties_dma m ρ c h5 hn, bigSep_singleton]
theorem rest_bar :
    bigSep ((Rd (F := F) m ρ).duties (gBar c) 0 \ ∅) (fun d => (Rd (F := F) m ρ).payload (gBar c) 0 d) = barPay c := by
  rw [Finset.sdiff_empty, duties_bar, bigSep_singleton, payload_bar]

end Sched

/-! ## Levels and debts -/

def L (g : GSem nD τ sig) : Finset Unit := if g.1.2 = .tc then {()} else ∅
def lvS : SemLoc sig → ℕ
  | .reg _ => 1
  | .dma q => if (21 ≤ q.val ∧ q.val < 37) ∨ q.val = 38 then 2 else 0
/-- Receive cells lie above the barrier cells, and those above everything else. -/
def lv (g : GSem nD τ sig) (_ : Unit) : ℕ := lvS g.2

theorem L_of_ne (g : GSem nD τ sig) (h : g.1.2 ≠ .tc) : L g = ∅ := if_neg h
theorem L_tc (g : GSem nD τ sig) (h : g.1.2 = .tc) : L g = {()} := if_pos h

/-- A debt owed to receive cells only; one owed to receive and barrier cells only. -/
def Hi (O : CellTallies nD τ sig Unit) : Prop := ∀ g u, 0 < O g u → g.1.2 = .tc ∧ 2 ≤ lv g u
def Mid (O : CellTallies nD τ sig Unit) : Prop := ∀ g u, 0 < O g u → g.1.2 = .tc ∧ 1 ≤ lv g u

theorem Hi.mid {O : CellTallies nD τ sig Unit} (h : Hi O) : Mid O := fun g u hg => ⟨(h g u hg).1, by have := (h g u hg).2; omega⟩
theorem Hi.zero : Hi 0 := fun g u hg => absurd hg (Nat.lt_irrefl 0)
theorem Hi.add {O P : CellTallies nD τ sig Unit} (h : Hi O) (h' : Hi P) : Hi (O + P) := fun g u hg => by
  rw [Pi.add_apply, Finsupp.add_apply] at hg
  rcases Nat.pos_iff_ne_zero.mp hg |> fun hne => (by omega : 0 < O g u ∨ 0 < P g u) with h1 | h1
  · exact h g u h1
  · exact h' g u h1
theorem Mid.add {O P : CellTallies nD τ sig Unit} (h : Mid O) (h' : Mid P) : Mid (O + P) := fun g u hg => by
  rw [Pi.add_apply, Finsupp.add_apply] at hg
  rcases (by omega : 0 < O g u ∨ 0 < P g u) with h1 | h1
  · exact h g u h1
  · exact h' g u h1
theorem tally_pos {g g' : GSem nD τ sig} {N : ℕ} {u : Unit} (h : 0 < tallyAt g () N g' u) : g' = g := by
  rw [tallyAt_apply] at h
  by_contra hn
  rw [if_neg (fun h' => hn h'.1)] at h
  exact Nat.lt_irrefl 0 h
theorem Hi.recv (c : Dev nD) {n N : ℕ} (h : (21 ≤ n ∧ n < 37) ∨ n = 38) : Hi (tallyAt (gDma c n) () N) := fun g u hg => by
  rw [tally_pos hg]
  refine ⟨rfl, ?_⟩
  unfold lv lvS; dsimp only
  rw [dsem_val (by omega), if_pos h]
theorem Mid.bar (c : Dev nD) {N : ℕ} : Mid (tallyAt (gBar c) () N) := fun g u hg => by
  rw [tally_pos hg]; exact ⟨rfl, le_refl 1⟩
theorem Hi.sum {s : Finset ℕ} {f : ℕ → CellTallies nD τ sig Unit} (h : ∀ k ∈ s, Hi (f k)) : Hi (∑ k ∈ s, f k) := by
  induction s using Finset.induction_on with
  | empty => rw [Finset.sum_empty]; exact Hi.zero
  | insert a s ha ih =>
    rw [Finset.sum_insert ha]
    exact (h a (Finset.mem_insert_self _ _)).add (ih fun k hk => h k (Finset.mem_insert_of_mem hk))

/-- What device `c` owes its peer's receive cells for the chunks from `n` on. -/
def OR (c : Dev nD) (n : ℕ) : CellTallies nD τ sig Unit := ∑ j ∈ Finset.Ico n 16, tallyAt (gDma (peer c) (21 + j)) () NR
def OM (c : Dev nD) (n : ℕ) : CellTallies nD τ sig Unit := OR c n + tallyAt (gDma (peer c) 38) () NM
def O₀ (c : Dev nD) : CellTallies nD τ sig Unit := OM c 0 + tallyAt (gBar (peer c)) () 1

theorem Hi.OR (c : Dev nD) (n : ℕ) : Hi (OR c n) :=
  Hi.sum fun k hk => Hi.recv _ (.inl (by have := Finset.mem_Ico.mp hk; omega))
theorem Hi.OM (c : Dev nD) (n : ℕ) : Hi (OM c n) := (Hi.OR c n).add (Hi.recv _ (.inr rfl))
theorem Mid.O₀ (c : Dev nD) : Mid (O₀ c) := (Hi.OM c 0).mid.add (Mid.bar _)

theorem OR_step (c : Dev nD) {n : ℕ} (hn : n < 16) : OR c n = OR c (n + 1) + tallyAt (gDma (peer c) (21 + n)) () NR := by
  unfold OR
  have e : Finset.Ico n 16 = insert n (Finset.Ico (n + 1) 16) := by
    ext x; simp only [Finset.mem_Ico, Finset.mem_insert]; omega
  rw [e, Finset.sum_insert (by simp only [Finset.mem_Ico]; omega), add_comm]
theorem OM_step (c : Dev nD) {n : ℕ} (hn : n < 16) : OM c n = OM c (n + 1) + tallyAt (gDma (peer c) (21 + n)) () NR := by
  unfold OM; rw [OR_step c hn, add_right_comm]
theorem OR_end (c : Dev nD) : OR c 16 = 0 := by unfold OR; rw [Finset.Ico_self, Finset.sum_empty]

theorem mayWait_low (c : Dev nD) (n : ℕ) (hn : ¬ ((21 ≤ n % 43 ∧ n % 43 < 37) ∨ n % 43 = 38)) {O : CellTallies nD τ sig Unit} (hO : Mid O) :
    (levAts L lv : sProp 𝕄) ⊢ MayWait (c : Thread nD τ) (.dma (dsem n)) () O :=
  MayOwe.of_cut (L := L) (lev := lv) 0 (fun p hp => by rw [Finset.mem_singleton.mp hp, L_tc _ rfl]; exact Finset.mem_singleton_self _)
    (fun g u hg => by rw [L_tc _ (hO g u hg).1]; exact Finset.mem_singleton_self _)
    (fun p hp => by
      rw [Finset.mem_singleton.mp hp]; dsimp only [lv, lvS]
      exact le_of_eq (if_neg hn))
    (fun g u hg => by have := (hO g u hg).2; omega)

theorem mayWait_bar (c : Dev nD) {O : CellTallies nD τ sig Unit} (hO : Hi O) :
    (levAts L lv : sProp 𝕄) ⊢ MayWait (c : Thread nD τ) (.reg barS) () O :=
  MayOwe.of_cut (L := L) (lev := lv) 1 (fun p hp => by rw [Finset.mem_singleton.mp hp, L_tc _ rfl]; exact Finset.mem_singleton_self _)
    (fun g u hg => by rw [L_tc _ (hO g u hg).1]; exact Finset.mem_singleton_self _)
    (fun p hp => by rw [Finset.mem_singleton.mp hp]; exact le_refl 1)
    (fun g u hg => by have := (hO g u hg).2; omega)

/-! ## Standing facts -/

/-- A cell's invariant, under some name, and that its round 0 is reached. -/
def Cell (g : GSem nD τ sig) : sProp 𝕄 := iprop((∃ κ, cellInv ER (Rd m ρ) κ g) ∗ reached ER g 0)
instance Cell_persistent (g : GSem nD τ sig) : BI.Persistent (Cell (F := F) m ρ g) := by unfold Cell; infer_instance

/-- Every cell's, and the levels. -/
def recs : sProp 𝕄 := iprop(bigSep Finset.univ (fun ck : Dev nD × Fin 35 => Cell m ρ (kcell ck)) ∗ levAts L lv)
instance recs_persistent : BI.Persistent (recs (F := F) m ρ) := by unfold recs; infer_instance

theorem recs_dma (c : Dev nD) (n : ℕ) (hn : n < 34) : recs m ρ ⊢ Cell m ρ (gDma c (5 + n)) := by
  unfold recs
  refine (sep_elim_left).trans ?_
  rw [← kcell_dma c n hn]
  exact bigSep_elim (Φ := fun ck : Dev nD × Fin 35 => Cell m ρ (kcell ck)) (Finset.mem_univ _)
theorem recs_bar (c : Dev nD) : recs m ρ ⊢ Cell m ρ (gBar c) := by
  unfold recs
  refine (sep_elim_left).trans ?_
  rw [← kcell_bar c]
  exact bigSep_elim (Φ := fun ck : Dev nD × Fin 35 => Cell m ρ (kcell ck)) (Finset.mem_univ _)
theorem recs_lev : recs m ρ ⊢ levAts L lv := by unfold recs; exact sep_elim_right

/-- What device `c` owes, whatever it has waited on. -/
def ow (c : Dev nD) (O : CellTallies nD τ sig Unit) : sProp 𝕄 := iprop(∃ W, owes (c : Thread nD τ) O W)

end Cert.KernelIdeal.Sharded

end
-- ==== Proof.KernelIdeal.Steps.lean ====
/-
# One rule per effect

Each of the kernel's effects in the form its proof uses it: local copies by what they deliver, waits by what they give
back, loads and stores by the piece of a buffer they touch, and the remote sends.
-/
module

public import proofs.«01_k».proof.Proof.KernelIdeal.Protocol

@[expose] public section

noncomputable section

namespace Cert.KernelIdeal.Sharded

open Cert.KernelIdeal Cert.KernelIdeal.Gen Cert.Bands

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's program on device `c` runs to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

abbrev Fl (c : Dev nD) (n N : ℕ) (D : sProp 𝕄) : sProp 𝕄 := Flight EC (c : Thread nD τ) (.dma (dsem n)) () N D
abbrev sv (c : Dev nD) (n : ℕ) : sProp 𝕄 := semVal (gDma c n) 0

section Generic
variable {α : Type} (c : Dev nD)

/-- A program that has returned. -/
theorem wp_done {Q : α → sProp 𝕄} {a : α} : Q a ⊢ WP c (.ret a) Q := by
  unfold WP; rw [wp_ret]; iintro H; imodintro; iexact H

/-- A local copy of what a view reads, started: the flight delivers the destination holding `T`, and the source back. -/
theorem wp_copy {Q : α → sProp 𝕄} {sp sp' : Space} {s : Shape} {e : EltTy}
    {src : Memref sig (c : Thread nD τ).2.kind sp s e} {dst : Memref sig (c : Thread nD τ).2.kind sp' s e} {sm : SemLoc sig}
    {hsrc : src.view.WordExact} {hdst : dst.view.WordExact} {hsem : DmaTarget.Typed (nD := nD) sp sm (.here dst)}
    {k : PUnit → Prog (TpuEff nD τ sig (Elt F) Λ₀ .tc) α} {q : PosShare TreeShare} {fs : Buf (Elt F) (src.view.loc (c : Thread nD τ))}
    {T : Buf (Elt F) (dst.view.loc (c : Thread nD τ))} {Ss : Finset (Idx (src.view.loc (c : Thread nD τ)))} {Sd : Finset (Idx (dst.view.loc (c : Thread nD τ)))}
    {n N : ℕ} (hsm : sm = .dma (dsem n)) (hS : src.view.set = Ss) (hD : dst.view.set = Sd) (hN : dst.view.amount sm = N) (hN0 : 0 < N)
    (hT : ∀ x, dst.view.read (Elt F) T x = src.view.read (Elt F) fs x) :
    iprop((src.view.loc (c : Thread nD τ) ↦[Ss]{q} fs) ∗ (∃ fd, dst.view.loc (c : Thread nD τ) ↦[Sd]{fullShare} fd) ∗ sv c n)
      ⊢ iprop((Fl c n N iprop((dst.view.loc (c : Thread nD τ) ↦[Sd]{fullShare} T) ∗ (src.view.loc (c : Thread nD τ) ↦[Ss]{q} fs)) -∗ WP c (k ⟨⟩) Q)
          -∗ WP c (.op (.enqueueDma src (.here dst) sm hsrc hdst hsem) k) Q) := by
  subst hsm hS hD
  iintro ⟨Hs, ⟨%fd, Hd⟩, Hv⟩ Hk
  iapply (Transfers.wp_dmaLocal EC 𝒱₀ (c : Thread nD τ) none (via := .same) (fd := fd) () N hN hN0 (Finset.Subset.refl _)) $$ [Hs Hd Hv]
  · isplitl [Hs]; · iexact Hs
    isplitl [Hd] <;> iassumption
  iintro Hf
  iapply Hk
  iapply (Transfers.Flight_mono EC (c : Thread nD τ) (sep_mono_left (Entails.of_eq (pointsTo_congr fun i hi => ?_)))) $$ Hf
  obtain ⟨x, -, rfl⟩ := Finset.mem_map.mp hi
  rw [View.write_emb_of_mem _ _ (Finset.mem_univ _)]
  have := hT x
  rw [View.read_apply] at this
  show cast _ (src.view.read (Elt F) fs x) = _
  rw [← this, cast_cast, cast_eq]

/-- A wait for a local copy: what it delivers, and its semaphore at zero. -/
theorem wp_waitF {Q : α → sProp 𝕄} {sp sp' : Space} {s s' : Shape} {e e' : EltTy} {sem : DmaSem sig}
    {srcw : Memref sig .tc sp' s' e'} {dstw : Memref sig .tc sp s e} {hsrc : srcw.view.WordExact} {hdst : dstw.view.WordExact}
    {k : PUnit → Prog (TpuEff nD τ sig (Elt F) Λ₀ .tc) α} {n N : ℕ} {D : sProp 𝕄} {O : CellTallies nD τ sig Unit}
    (hs : sem = dsem n) (hn : ¬ ((21 ≤ n % 43 ∧ n % 43 < 37) ∨ n % 43 = 38)) (hN : dstw.view.dmaCredit = N) (hO : Mid O) :
    iprop(recs m ρ ∗ Fl c n N D ∗ ow c O)
      ⊢ iprop((iprop(D ∗ sv c n ∗ ow c O) -∗ WP c (k ⟨⟩) Q) -∗ WP c (.op (.waitDma2 sem srcw dstw hsrc hdst) k) Q) := by
  subst hs
  unfold ow
  iintro ⟨#Hr, Hf, ⟨%W, HO⟩⟩ Hk
  iapply (Transfers.wp_waitLocalO EC 𝒱₀ (c : Thread nD τ) none () hN) $$ [Hf HO]
  · isplitl [Hf]; · iexact Hf
    isplitl [HO]; · iexact HO
    iapply (mayWait_low c n hn hO)
    iapply (recs_lev m ρ); iexact Hr
  iintro ⟨HD, Hv, HO⟩
  iapply Hk
  isplitl [HD]; · iexact HD
  isplitl [Hv]; · iexact Hv
  iexists _; iexact HO

/-- A load of a piece of a buffer. -/
theorem wp_ld {Q : α → sProp 𝕄} {cs : CoreSpace} {s : Shape} {e : EltTy} {M : Memref sig .tc cs s e} {r : Rect s} {hl : M.view.LoadsAt r.toLoadRect}
    {k : (r.shape.Idx → Elt F e) → Prog (TpuEff nD τ sig (Elt F) Λ₀ .tc) α} {S : Finset (Idx ((M.access r).loc (c : Thread nD τ)))}
    {q : PosShare TreeShare} {f : Buf (Elt F) ((M.access r).loc (c : Thread nD τ))} {v : r.shape.Idx → Elt F e}
    (hS : (M.access r).set ⊆ S) (hv : (M.access r).read (Elt F) f = v) :
    ((M.access r).loc (c : Thread nD τ) ↦[S]{q} f)
      ⊢ iprop((((M.access r).loc (c : Thread nD τ) ↦[S]{q} f) -∗ WP c (k v) Q) -∗ WP c (.op (.load M r.toLoadRect hl) k) Q) := by
  subst hv
  exact wp_load_rect 𝒱₀ (c : Thread nD τ) none Set.univ hS

/-- A store to a piece of a buffer, which then holds `T`. -/
theorem wp_st {Q : α → sProp 𝕄} {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {S : Finset (Idx ((M.access r).loc (c : Thread nD τ)))}
    {T : Buf (Elt F) ((M.access r).loc (c : Thread nD τ))}
    (hS : (M.access r).set = S) (hT : (M.access r).read (Elt F) T = w) :
    iprop(∃ f, (M.access r).loc (c : Thread nD τ) ↦[S]{fullShare} f)
      ⊢ iprop((((M.access r).loc (c : Thread nD τ) ↦[S]{fullShare} T) -∗ WP c (k ⟨⟩) Q) -∗ WP c (.op (.store M r w Finset.univ hx hm) k) Q) := by
  subst hS
  iintro ⟨%f, H⟩ Hk
  iapply (wp_store 𝒱₀ (c : Thread nD τ) none Set.univ (m := M) (r := r) (Mk := Finset.univ) (S := (M.access r).set) (Finset.Subset.refl _)) $$ H
  iintro H
  iapply Hk
  iapply (Entails.of_eq (pointsTo_congr fun i hi => ?_)) $$ H
  obtain ⟨x, -, rfl⟩ := Finset.mem_map.mp hi
  rw [View.write_emb_of_mem _ _ (Finset.mem_univ _), ← hT, View.read_apply, cast_cast, cast_eq]

end Generic

/-- The amount a copy into a slice moves does not depend on where the slice lies. -/
theorem amt_wb {off3 inb3 sm} : (wbSl off3 inb3).view.amount (.dma sm) = NW := rfl
theorem amt_lb {off3 inb3 sm} : (lbSl off3 inb3).view.amount (.dma sm) = NB := rfl
theorem amt_l {off inb sm} : (lSl off inb).view.amount (.dma sm) = NL := rfl
theorem amt_r {off inb sm} : (rSl off inb).view.amount (.dma sm) = NR := rfl
theorem amt_o {off inb sm} : (oSl off inb).view.amount (.dma sm) = NO := rfl

/-- Nor does the amount a wait for one takes. -/
theorem crd_wb {off3 inb3} : (wbSl off3 inb3).view.dmaCredit = NW := rfl
theorem crd_lb {off3 inb3} : (lbSl off3 inb3).view.dmaCredit = NB := rfl
theorem crd_l {off inb} : (lSl off inb).view.dmaCredit = NL := rfl
theorem crd_r {off inb} : (rSl off inb).view.dmaCredit = NR := rfl
theorem crd_o {off inb} : (oSl off inb).view.dmaCredit = NO := rfl

/-- The typing a local copy comes with. -/
abbrev HereOK (sp : Space) (sm : SemLoc sig) {sp' : Space} {s : Shape} {e : EltTy} (dst : Memref sig (Proc.tc : Proc τ).kind sp' s e) : Prop :=
  DmaTarget.Typed (nD := nD) (p := (Proc.tc : Proc τ)) sp sm (.here dst)

section Copies
variable {α : Type} (c : Dev nD) {off : Fin 2 → ℕ} {off3 : Fin 3 → ℕ} {offs : Fin 1 → ℕ} {k b : ℕ}

/-- Chunk `k` of the weights, fetched into a slot. -/
theorem wp_fetchW {Q : α → sProp 𝕄} {kk : PUnit → Prog (TpuEff nD τ sig (Elt F) Λ₀ .tc) α} {inb inb3 inbs}
    {hsrc : (wSl off inb).view.WordExact} {hdst : (wbSl off3 inb3).view.WordExact}
    {hsem : HereOK .hbm (.dma (sem2 cc0_scratch6 offs inbs)) (wbSl off3 inb3)}
    (h : off = ![0, 1024 * k]) (h3 : off3 = ![b, 0, 0]) (hs : offs = ![b]) :
    iprop(wB m c (1024 * k) (1024 * k + 1024) ∗ wS c b ∗ sv c (1 + b))
      ⊢ iprop((Fl c (1 + b) NW iprop(wD m c b k ∗ wB m c (1024 * k) (1024 * k + 1024)) -∗ WP c (kk ⟨⟩) Q)
          -∗ WP c (.op (.enqueueDma (wSl off inb) (.here (wbSl off3 inb3)) (.dma (sem2 cc0_scratch6 offs inbs)) hsrc hdst hsem) kk) Q) := by
  have hT : ∀ x, (wbSl off3 inb3).view.read (Elt F) (slab (Wn m c) k) x = (wSl off inb).view.read (Elt F) (mat (Wn m c)) x := fun x =>
    (wbSl_read _ h3 _ x).trans (wSl_read _ h _ x).symm
  exact wp_copy c (src := wSl off inb) (dst := wbSl off3 inb3) (Ss := (band col (1024 * k) (1024 * k + 1024))) (Sd := (band slot b (b + 1))) (fs := mat (Wn m c)) (T := slab (Wn m c) k) (q := fullShare)
    (congrArg SemLoc.dma (wSem_eq hs _)) (wSl_set h _) (wbSl_set h3 _) amt_wb NW_pos hT

/-- A slot of products, stored as chunk `k` of the own half. -/
theorem wp_storeL {Q : α → sProp 𝕄} {kk : PUnit → Prog (TpuEff nD τ sig (Elt F) Λ₀ .tc) α} {inb inb3 inbs} (G : ℕ → ℕ → F .f32)
    {hdst : (lSl off inb).view.WordExact} {hsrc : (lbSl off3 inb3).view.WordExact}
    {hsem : HereOK .vmem (.dma (sem2 cc0_scratch7 offs inbs)) (lSl off inb)}
    (h : off = ![0, 1024 * k]) (h3 : off3 = ![b, 0, 0]) (hs : offs = ![b]) :
    iprop(lD c b G k ∗ lAny c (1024 * k) (1024 * k + 1024) ∗ sv c (3 + b))
      ⊢ iprop((Fl c (3 + b) NL iprop(lB c fullShare (1024 * k) (1024 * k + 1024) G ∗ lD c b G k) -∗ WP c (kk ⟨⟩) Q)
          -∗ WP c (.op (.enqueueDma (lbSl off3 inb3) (.here (lSl off inb)) (.dma (sem2 cc0_scratch7 offs inbs)) hsrc hdst hsem) kk) Q) := by
  have hT : ∀ x, (lSl off inb).view.read (Elt F) (mat G) x = (lbSl off3 inb3).view.read (Elt F) (slab G k) x := fun x =>
    (lSl_read _ h _ x).trans (lbSl_read _ h3 _ x).symm
  exact wp_copy c (src := lbSl off3 inb3) (dst := lSl off inb) (Ss := (band slot b (b + 1))) (Sd := (band col (1024 * k) (1024 * k + 1024))) (fs := slab G k) (T := mat G) (q := fullShare)
    (congrArg SemLoc.dma (stSem_eq hs _)) (lbSl_set h3 _) (lSl_set h _) amt_l NL_pos hT

/-- Chunk `k` of the own half, fetched into a slot. -/
theorem wp_fetchL {Q : α → sProp 𝕄} {kk : PUnit → Prog (TpuEff nD τ sig (Elt F) Λ₀ .tc) α} {inb inb3 inbs} (q : PosShare TreeShare) (G : ℕ → ℕ → F .f32)
    {hsrc : (lSl off inb).view.WordExact} {hdst : (lbSl off3 inb3).view.WordExact}
    {hsem : HereOK .hbm (.dma (sem2 cc0_scratch12 offs inbs)) (lbSl off3 inb3)}
    (h : off = ![0, 1024 * k]) (h3 : off3 = ![b, 0, 0]) (hs : offs = ![b]) :
    iprop(lB c q (1024 * k) (1024 * k + 1024) G ∗ lS c b ∗ sv c (39 + b))
      ⊢ iprop((Fl c (39 + b) NB iprop(lD c b G k ∗ lB c q (1024 * k) (1024 * k + 1024) G) -∗ WP c (kk ⟨⟩) Q)
          -∗ WP c (.op (.enqueueDma (lSl off inb) (.here (lbSl off3 inb3)) (.dma (sem2 cc0_scratch12 offs inbs)) hsrc hdst hsem) kk) Q) := by
  have hT : ∀ x, (lbSl off3 inb3).view.read (Elt F) (slab G k) x = (lSl off inb).view.read (Elt F) (mat G) x := fun x =>
    (lbSl_read _ h3 _ x).trans (lSl_read _ h _ x).symm
  exact wp_copy c (src := lSl off inb) (dst := lbSl off3 inb3) (Ss := (band col (1024 * k) (1024 * k + 1024))) (Sd := (band slot b (b + 1))) (fs := mat G) (T := slab G k) (q := q)
    (congrArg SemLoc.dma (rdSem_eq hs _)) (lSl_set h _) (lbSl_set h3 _) amt_lb NB_pos hT

/-- Chunk `k` of the peer's half, fetched into a slot. -/
theorem wp_fetchR {Q : α → sProp 𝕄} {kk : PUnit → Prog (TpuEff nD τ sig (Elt F) Λ₀ .tc) α} {inb inb3 inbs} (G : ℕ → ℕ → F .f32)
    {hsrc : (rSl off inb).view.WordExact} {hdst : (lbSl off3 inb3).view.WordExact}
    {hsem : HereOK .hbm (.dma (sem2 cc0_scratch12 offs inbs)) (lbSl off3 inb3)}
    (h : off = ![0, 1024 * k]) (h3 : off3 = ![b, 0, 0]) (hs : offs = ![b]) :
    iprop(rB c (1024 * k) (1024 * k + 1024) G ∗ lS c b ∗ sv c (39 + b))
      ⊢ iprop((Fl c (39 + b) NB iprop(lD c b G k ∗ rB c (1024 * k) (1024 * k + 1024) G) -∗ WP c (kk ⟨⟩) Q)
          -∗ WP c (.op (.enqueueDma (rSl off inb) (.here (lbSl off3 inb3)) (.dma (sem2 cc0_scratch12 offs inbs)) hsrc hdst hsem) kk) Q) := by
  have hT : ∀ x, (lbSl off3 inb3).view.read (Elt F) (slab G k) x = (rSl off inb).view.read (Elt F) (mat G) x := fun x =>
    (lbSl_read _ h3 _ x).trans (rSl_read _ h _ x).symm
  exact wp_copy c (src := rSl off inb) (dst := lbSl off3 inb3) (Ss := (band col (1024 * k) (1024 * k + 1024))) (Sd := (band slot b (b + 1))) (fs := mat G) (T := slab G k) (q := fullShare)
    (congrArg SemLoc.dma (rdSem_eq hs _)) (rSl_set h _) (lbSl_set h3 _) amt_lb NB_pos hT

/-- A slot of normalised values, stored as a chunk of the result. -/
theorem wp_storeO {Q : α → sProp 𝕄} {kk : PUnit → Prog (TpuEff nD τ sig (Elt F) Λ₀ .tc) α} {inb inb3 inbs} (G : ℕ → ℕ → F .f32) {o : ℕ}
    {hdst : (oSl off inb).view.WordExact} {hsrc : (lbSl off3 inb3).view.WordExact}
    {hsem : HereOK .vmem (.dma (sem2 cc0_scratch13 offs inbs)) (oSl off inb)}
    (h : off = ![0, o]) (h3 : off3 = ![b, 0, 0]) (hs : offs = ![b])
    (hG : ∀ p q, q < 1024 → Out m ρ c p (o + q) = G p (1024 * k + q)) :
    iprop(lD c b G k ∗ oAny c o (o + 1024) ∗ sv c (41 + b))
      ⊢ iprop((Fl c (41 + b) NO iprop(oB m ρ c o (o + 1024) ∗ lD c b G k) -∗ WP c (kk ⟨⟩) Q)
          -∗ WP c (.op (.enqueueDma (lbSl off3 inb3) (.here (oSl off inb)) (.dma (sem2 cc0_scratch13 offs inbs)) hsrc hdst hsem) kk) Q) := by
  have hT : ∀ x, (oSl off inb).view.read (Elt F) (mat (Out m ρ c)) x = (lbSl off3 inb3).view.read (Elt F) (slab G k) x := fun x =>
    (oSl_read _ h _ x).trans ((hG _ _ (x 1).isLt).trans (lbSl_read _ h3 _ x).symm)
  exact wp_copy c (src := lbSl off3 inb3) (dst := oSl off inb) (Ss := (band slot b (b + 1))) (Sd := (band col o (o + 1024))) (fs := slab G k) (T := mat (Out m ρ c)) (q := fullShare)
    (congrArg SemLoc.dma (wrSem_eq hs _)) (lbSl_set h3 _) (oSl_set h _) amt_o NO_pos hT

end Copies

section Sends
variable {α : Type} (c : Dev nD)

/-- A remote copy that pays a send cell of the device and a receive cell of its peer. -/
theorem wp_remote {Q : α → sProp 𝕄} {sp sp' : Space} {s : Shape} {e : EltTy} {n : Dev nD}
    {src : Memref sig (c : Thread nD τ).2.kind sp s e} {dst : Memref sig (Dev.tc n : Thread nD τ).2.kind sp' s e}
    {hsc : dst.view.ref.isScScratch = false} {sS sem : SemLoc sig}
    {hsrc : src.view.WordExact} {hdst : dst.view.WordExact} {hsem : DmaTarget.Typed sp sem (.remote (Dev.tc n : Thread nD τ) dst sS hsc)}
    {kk : PUnit → Prog (TpuEff nD τ sig (Elt F) Λ₀ .tc) α} {q : PosShare TreeShare}
    {fs : Buf (Elt F) (src.view.loc (c : Thread nD τ))} {T : Buf (Elt F) (dst.view.loc (n : Thread nD τ))}
    {Ss : Finset (Idx (src.view.loc (c : Thread nD τ)))} {Sd : Finset (Idx (dst.view.loc (n : Thread nD τ)))}
    {a b N : ℕ} (hsS : sS = .dma (dsem a)) (hsm : sem = .dma (dsem b)) (hS : src.view.set = Ss) (hD : dst.view.set = Sd)
    (hN : dst.view.amount sem = N) (ha5 : 5 ≤ a) (ha : a < 39) (hb5 : 5 ≤ b) (hb : b < 39)
    (hk₁ : (Rd (F := F) m ρ).amount (gDma c a) 0 () = N) (hk₂ : (Rd (F := F) m ρ).amount (gDma n b) 0 () = N)
    (hT : ∀ x, dst.view.read (Elt F) T x = src.view.read (Elt F) fs x)
    {O₁ : CellTallies nD τ sig Unit} (O : CellTallies nD τ sig Unit) (hO : O₁ = O + tallyAt (gDma n b) () N)
    (hpay₁ : (src.view.loc (c : Thread nD τ) ↦[Ss]{q} fs) ⊢ (Rd (F := F) m ρ).payload (gDma c a) 0 ())
    (hpay₂ : (dst.view.loc (n : Thread nD τ) ↦[Sd]{fullShare} T) ⊢ (Rd (F := F) m ρ).payload (gDma n b) 0 ()) :
    iprop(recs m ρ ∗ (src.view.loc (c : Thread nD τ) ↦[Ss]{q} fs) ∗ (∃ fd, dst.view.loc (n : Thread nD τ) ↦[Sd]{fullShare} fd)
        ∗ ow c O₁ ∗ dutyTok ER (gDma c a) 0 () ∗ dutyTok ER (gDma n b) 0 ())
      ⊢ iprop(((cred (tallyAt (gDma c a) () N) ∗ ow c O) -∗ WP c (kk ⟨⟩) Q)
          -∗ WP c (.op (.enqueueDma src (.remote (Dev.tc n : Thread nD τ) dst sS hsc) sem hsrc hdst hsem) kk) Q) := by
  subst hsS hsm hS hD
  unfold ow
  obtain ⟨a', rfl⟩ : ∃ a', a = 5 + a' := ⟨a - 5, by omega⟩
  obtain ⟨b', rfl⟩ : ∃ b', b = 5 + b' := ⟨b - 5, by omega⟩
  iintro ⟨#Hr, Hs, ⟨%fd, Hd⟩, ⟨%W, HO⟩, Ht₁, Ht₂⟩ Hk
  ihave H₁ := (recs_dma m ρ c a' (by omega)) $$ Hr
  ihave H₂ := (recs_dma m ρ n b' (by omega)) $$ Hr
  unfold Cell
  icases H₁ with ⟨⟨%κ₁, #HI₁⟩, #HR₁⟩
  icases H₂ with ⟨⟨%κ₂, #HI₂⟩, #HR₂⟩
  iapply (Rounds.wp_send_pointsTo 𝒱₀ ER (Rd m ρ) (c : Thread nD τ) none (κ₁ := κ₁) (κ₂ := κ₂) (r₁ := 0) (r₂ := 0) (d₁ := ()) (d₂ := ()) (fd := fd)
    (by rw [duties_dma m ρ c ha5 ha]; exact Finset.mem_singleton_self _) (by rw [duties_dma m ρ n hb5 hb]; exact Finset.mem_singleton_self _)
    () () N hN hk₁ hk₂ O hO hpay₁ ((Entails.of_eq (pointsTo_congr fun i hi => ?_)).trans hpay₂)) $$ [Hs Hd HO Ht₁ Ht₂]
  · obtain ⟨x, -, rfl⟩ := Finset.mem_map.mp hi
    rw [View.write_emb_of_mem _ _ (Finset.mem_univ _)]
    have := hT x
    rw [View.read_apply] at this
    rw [← this, cast_cast, cast_eq]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  iintro ⟨Hc, HO⟩
  iapply Hk
  isplitl [Hc]; · iexact Hc
  iexists _; iexact HO

/-- The own half's chunk `k` sent to the peer. -/
theorem wp_sendChunk {Q : α → sProp 𝕄} {n : Dev nD} {off : Fin 2 → ℕ} {offs : Fin 1 → ℕ} {k : ℕ} {inb inbs}
    {hsc : (rSl off inb : Memref sig (Dev.tc n : Thread nD τ).2.kind _ _ _).view.ref.isScScratch = false}
    {hsrc : (lSl off inb).view.WordExact} {hdst : (rSl off inb).view.WordExact}
    {hsem : DmaTarget.Typed .hbm (.dma (sem16 cc0_scratch9 offs inbs))
      (.remote (Dev.tc n : Thread nD τ) (rSl off inb) (.dma (sem16 cc0_scratch8 offs inbs)) hsc)}
    {kk : PUnit → Prog (TpuEff nD τ sig (Elt F) Λ₀ .tc) α}
    (hn : n = peer c) (h : off = ![0, 1024 * k]) (hs : offs = ![k]) (hk : k < 16)
    {O₁ : CellTallies nD τ sig Unit} (O : CellTallies nD τ sig Unit) (hO : O₁ = O + tallyAt (gDma (peer c) (21 + k)) () NR) :
    iprop(recs m ρ ∗ lB c (PosShare.left fullShare) (1024 * k) (1024 * k + 1024) (Lg m ρ c) ∗ rAny (peer c) (1024 * k) (1024 * k + 1024)
        ∗ ow c O₁ ∗ dutyTok ER (gDma c (5 + k)) 0 () ∗ dutyTok ER (gDma (peer c) (21 + k)) 0 ())
      ⊢ iprop(((cred (tallyAt (gDma c (5 + k)) () NR) ∗ ow c O) -∗ WP c (kk ⟨⟩) Q)
          -∗ WP c (.op (.enqueueDma (lSl off inb) (.remote (Dev.tc n : Thread nD τ) (rSl off inb) (.dma (sem16 cc0_scratch8 offs inbs)) hsc)
            (.dma (sem16 cc0_scratch9 offs inbs)) hsrc hdst hsem) kk) Q) := by
  subst hn
  have hT : ∀ x, (rSl off inb).view.read (Elt F) (mat (Lg m ρ c)) x = (lSl off inb).view.read (Elt F) (mat (Lg m ρ c)) x := fun x =>
    (rSl_read _ h _ x).trans (lSl_read _ h _ x).symm
  refine wp_remote m ρ c (n := peer c) (src := lSl off inb) (dst := rSl off inb) (q := PosShare.left fullShare) (fs := mat (Lg m ρ c)) (T := mat (Lg m ρ c))
    (Ss := band col (1024 * k) (1024 * k + 1024)) (Sd := band col (1024 * k) (1024 * k + 1024)) (a := 5 + k) (b := 21 + k) (N := NR)
    (congrArg SemLoc.dma (sendSem_eq hs _)) (congrArg SemLoc.dma (recvSem_eq hs _)) (lSl_set h _) (rSl_set h _) amt_r
    (by omega) (by omega) (by omega) (by omega) (amount_chunk m ρ c (by omega)) (amount_chunk m ρ (peer c) (by omega)) hT O hO ?_ ?_
  · rw [payload_send m ρ c hk]; exact .rfl
  · rw [payload_recv m ρ (peer c) hk]; unfold recvPay; rw [peer_peer]; exact .rfl

/-- The pair sent to the peer. -/
theorem wp_sendPair {Q : α → sProp 𝕄} {n : Dev nD}
    {hsc : (mrM : Memref sig (Dev.tc n : Thread nD τ).2.kind _ _ _).view.ref.isScScratch = false}
    {hsrc : msM.view.WordExact} {hdst : mrM.view.WordExact}
    {hsem : DmaTarget.Typed .vmem (.dma cc0_scratch11.sem) (.remote (Dev.tc n : Thread nD τ) mrM (.dma cc0_scratch10.sem) hsc)}
    {kk : PUnit → Prog (TpuEff nD τ sig (Elt F) Λ₀ .tc) α} (hn : n = peer c)
    {O₁ : CellTallies nD τ sig Unit} (O : CellTallies nD τ sig Unit) (hO : O₁ = O + tallyAt (gDma (peer c) 38) () NM) :
    iprop(recs m ρ ∗ msP m ρ c ∗ mrAny (peer c) ∗ ow c O₁ ∗ dutyTok ER (gDma c 37) 0 () ∗ dutyTok ER (gDma (peer c) 38) 0 ())
      ⊢ iprop(((cred (tallyAt (gDma c 37) () NM) ∗ ow c O) -∗ WP c (kk ⟨⟩) Q)
          -∗ WP c (.op (.enqueueDma msM (.remote (Dev.tc n : Thread nD τ) mrM (.dma cc0_scratch10.sem) hsc) (.dma cc0_scratch11.sem) hsrc hdst hsem) kk) Q) := by
  subst hn
  unfold msP
  iintro ⟨#Hr, ⟨%f, Hs⟩, Hd, HO, Ht₁, Ht₂⟩ Hk
  iapply (wp_remote m ρ c (src := msM) (dst := mrM) (q := fullShare) (fs := msT (mst m ρ c 16) (sst m ρ c 16) f) (T := msT (mst m ρ c 16) (sst m ρ c 16) f)
    (Ss := Finset.univ) (Sd := Finset.univ) (a := 37) (b := 38) rfl rfl
    (View.set_whole _) (View.set_whole _) rfl (by omega) (by omega) (by omega) (by omega) (amount_pair m ρ c (by omega) (by omega))
    (amount_pair m ρ (peer c) (by omega) (by omega)) (fun x => rfl) O hO
    (by rw [payload_ms]; unfold msP; iintro H; iexists f; iexact H)
    (by rw [payload_mr]; unfold mrP; rw [peer_peer]; iintro H; iexists f; iexact H)) $$ [Hs Hd HO Ht₁ Ht₂]
  · isplitr; · iexact Hr
    isplitl [Hs]; · iexact Hs
    isplitl [Hd]; · unfold mrAny; iexact Hd
    isplitl [HO]; · iexact HO
    isplitl [Ht₁] <;> iassumption
  iexact Hk

/-- A wait for a cell's whole round: its payload, and the cell's counter at zero. -/
theorem wp_waitCell {Q : α → sProp 𝕄} {sp sp' : Space} {s s' : Shape} {e e' : EltTy} {sem : DmaSem sig}
    {srcw : Memref sig .tc sp' s' e'} {dstw : Memref sig .tc sp s e} {hsrc : srcw.view.WordExact} {hdst : dstw.view.WordExact}
    {k : PUnit → Prog (TpuEff nD τ sig (Elt F) Λ₀ .tc) α} {n N : ℕ} {P : sProp 𝕄} {O : CellTallies nD τ sig Unit}
    (hs : sem = dsem n) (h5 : 5 ≤ n) (hn : n < 39) (hN : dstw.view.dmaCredit = N) (he : (Rd (F := F) m ρ).expect (gDma c n) 0 = N)
    (hP : (Rd (F := F) m ρ).payload (gDma c n) 0 () = P)
    (hO : (levAts L lv : sProp 𝕄) ⊢ MayWait (c : Thread nD τ) (.dma (dsem n)) () O) :
    iprop(recs m ρ ∗ cred (tallyAt (gDma c n) () N) ∗ atPos ER (gDma c n) 0 ∅ 0 ∗ ow c O)
      ⊢ iprop((iprop(P ∗ sv c n ∗ ow c O) -∗ WP c (k ⟨⟩) Q) -∗ WP c (.op (.waitDma2 sem srcw dstw hsrc hdst) k) Q) := by
  subst hs hP
  unfold ow
  obtain ⟨n', rfl⟩ : ∃ n', n = 5 + n' := ⟨n - 5, by omega⟩
  iintro ⟨#Hr, Hc, Hat, ⟨%W, HO⟩⟩ Hk
  ihave H₁ := (recs_dma m ρ c n' (by omega)) $$ Hr
  unfold Cell
  icases H₁ with ⟨⟨%κ, #HI⟩, -⟩
  subst hN
  iapply (Rounds.wp_wait_rest_token 𝒱₀ ER (Rd m ρ) (c : Thread nD τ) none (κ := κ)
      (wpE_waitDma2_eq 𝒱₀ (c : Thread nD τ) none Set.univ) (Set.mem_univ _) () (O := O) (W := W) (R := 0) (m := 0) (T := ∅)
      (by rw [Nat.zero_add]; exact he.symm)) $$ [Hc HO Hat]
  · isplitr; · iexact HI
    isplitl [Hc]; · iexact Hc
    isplitl [HO]; · iexact HO
    isplitr; · iapply hO; iapply (recs_lev m ρ); iexact Hr
    iexact Hat
  iintro ⟨HO, Hat, -, Hpay⟩
  ihave Hp := (Entails.of_eq (rest_dma m ρ c h5 hn)) $$ Hpay
  imod (Rounds.cell_close ER (Rd m ρ) (Set.mem_univ κ) (fun h => h) (R := 0 + 1) (duties_later m ρ (gDma c (5 + n')))) $$ [Hat] with Hz
  · isplitr; · iexact HI
    iexact Hat
  iapply Hk
  isplitl [Hp]; · iexact Hp
  isplitl [Hz]; · iexact Hz
  iexists _; iexact HO

end Sends

end Cert.KernelIdeal.Sharded

end
-- ==== Proof.KernelIdeal.Pieces.lean ====
/-
# Cutting and joining the pieces, and the accesses to them

Each buffer is held in bands; here a band is cut in two, two bands are joined, and every load and store the kernel makes is
stated on the piece it touches.
-/
module

public import proofs.«01_k».proof.Proof.KernelIdeal.Steps

@[expose] public section

noncomputable section

namespace Cert.KernelIdeal.Sharded

open Cert.KernelIdeal Cert.KernelIdeal.Gen Cert.Bands

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Bands -/

section Bands
variable (c : Dev nD) (q : PosShare TreeShare) {lo mid hi : ℕ} (G : ℕ → ℕ → F .f32)

theorem wB_split (h₁ : lo ≤ mid) (h₂ : mid ≤ hi) : wB m c lo hi ⊣⊢ iprop(wB m c lo mid ∗ wB m c mid hi) := pts_split h₁ h₂
theorem lB_split (h₁ : lo ≤ mid) (h₂ : mid ≤ hi) : lB c q lo hi G ⊣⊢ iprop(lB c q lo mid G ∗ lB c q mid hi G) := pts_split h₁ h₂
theorem rB_split (h₁ : lo ≤ mid) (h₂ : mid ≤ hi) : rB c lo hi G ⊣⊢ iprop(rB c lo mid G ∗ rB c mid hi G) := pts_split h₁ h₂
theorem oB_split (h₁ : lo ≤ mid) (h₂ : mid ≤ hi) : oB m ρ c lo hi ⊣⊢ iprop(oB m ρ c lo mid ∗ oB m ρ c mid hi) := pts_split h₁ h₂

theorem lAny_split (h₁ : lo ≤ mid) (h₂ : mid ≤ hi) : lAny (F := F) c lo hi ⊢ iprop(lAny c lo mid ∗ lAny c mid hi) := by
  unfold lAny
  iintro ⟨%f, H⟩
  ihave H := (pts_split h₁ h₂).1 $$ H
  icases H with ⟨Ha, Hb⟩
  isplitl [Ha]
  · iexists f; iexact Ha
  iexists f; iexact Hb
theorem rAny_split (h₁ : lo ≤ mid) (h₂ : mid ≤ hi) : rAny (F := F) c lo hi ⊢ iprop(rAny c lo mid ∗ rAny c mid hi) := by
  unfold rAny
  iintro ⟨%f, H⟩
  ihave H := (pts_split h₁ h₂).1 $$ H
  icases H with ⟨Ha, Hb⟩
  isplitl [Ha]
  · iexists f; iexact Ha
  iexists f; iexact Hb
theorem oAny_split (h₁ : lo ≤ mid) (h₂ : mid ≤ hi) : oAny (F := F) c lo hi ⊢ iprop(oAny c lo mid ∗ oAny c mid hi) := by
  unfold oAny
  iintro ⟨%f, H⟩
  ihave H := (pts_split h₁ h₂).1 $$ H
  icases H with ⟨Ha, Hb⟩
  isplitl [Ha]
  · iexists f; iexact Ha
  iexists f; iexact Hb

theorem wB_none (h : hi ≤ lo) : wB m c lo hi = iprop(emp) := pts_none h
theorem lB_none (h : hi ≤ lo) : lB c q lo hi G = iprop(emp) := pts_none h
theorem rB_none (h : hi ≤ lo) : rB c lo hi G = iprop(emp) := pts_none h
theorem oB_none (h : hi ≤ lo) : oB m ρ c lo hi = iprop(emp) := pts_none h
theorem lAny_none (h : hi ≤ lo) : (iprop(emp) : sProp 𝕄) ⊢ lAny (F := F) c lo hi := by
  unfold lAny
  iintro -
  iexists mat (fun _ _ => Scalar.ofBits .f32 0x00000000#32)
  rw [pts_none h]; iempintro
theorem oAny_none (h : hi ≤ lo) : oAny (F := F) c lo hi ⊢ (iprop(emp) : sProp 𝕄) := by
  unfold oAny
  iintro ⟨%f, H⟩
  rw [pts_none h]; iempintro

/-- A band of products at the full share is one at each half of it. -/
theorem lB_share : lB c fullShare lo hi G ⊣⊢ iprop(lB c (PosShare.left fullShare) lo hi G ∗ lB c (PosShare.right fullShare) lo hi G) :=
  pointsTo_share (PosShare.mem_left_op_right fullShare)

/-- A slot holding a chunk is a slot holding anything. -/
theorem lD_any (b k : ℕ) : lD c b G k ⊢ lS (F := F) c b := by unfold lD lS; iintro H; iexists _; iexact H
theorem wD_any (b k : ℕ) : wD m c b k ⊢ wS (F := F) c b := by unfold wD wS; iintro H; iexists _; iexact H

end Bands

/-! ## The whole buffers -/

abbrev xM : Memref sig .tc .vmem S1024x2048 .f32 := Memref.whole cc0_stg0_0
abbrev mM : Memref sig .tc .vmem S1024x1 .f32 := Memref.whole cc0_scratch2
abbrev sM : Memref sig .tc .vmem S1024x1 .f32 := Memref.whole cc0_scratch3

/-- The staged block of `x`, the running maximum, the running sum. -/
def xP (c : Dev nD) : sProp 𝕄 := (c : Thread nD τ).loc cc0_stg0_0 ↦{fullShare} xv m ρ c
def mP (c : Dev nD) (v : Vec F S1024x1 .f32) : sProp 𝕄 := (c : Thread nD τ).loc cc0_scratch2 ↦{fullShare} v
def sP (c : Dev nD) (v : Vec F S1024x1 .f32) : sProp 𝕄 := (c : Thread nD τ).loc cc0_scratch3 ↦{fullShare} v

theorem hz : (![0, 0] : Fin 2 → Nat) = fun _ => 0 := funext fun a => by fin_cases a <;> rfl
abbrev xR (inb : ∀ a, (![0, 0] : Fin 2 → ℕ) a + S1024x2048.size a ≤ S1024x2048.size a) : Rect S1024x2048 := Rect.unit (s := S1024x2048) ![0, 0] S1024x2048.size inb
abbrev cR (inb : ∀ a, (![0, 0] : Fin 2 → ℕ) a + S1024x1.size a ≤ S1024x1.size a) : Rect S1024x1 := Rect.unit (s := S1024x1) ![0, 0] S1024x1.size inb

theorem cR_set_m (inb) : (mM.access (cR inb)).set = Finset.univ :=
  (View.set_slice_whole _ _).trans ((unit_cols (A := 1024) (B := 1) (C := 1) inb).trans (band_univ fun i => ⟨Nat.zero_le _, (i 1).isLt⟩))
theorem cR_set_s (inb) : (sM.access (cR inb)).set = Finset.univ :=
  (View.set_slice_whole _ _).trans ((unit_cols (A := 1024) (B := 1) (C := 1) inb).trans (band_univ fun i => ⟨Nat.zero_le _, (i 1).isLt⟩))

section Accesses
variable {α : Type} (c : Dev nD) {off3 : Fin 3 → ℕ} {k b : ℕ}

theorem wp_ldX {Q : α → sProp 𝕄} {inb} {hl : xM.view.LoadsAt (xR inb).toLoadRect} {kk : Vec F S1024x2048 .f32 → Prog (TpuEff nD τ sig (Elt F) Λ₀ .tc) α} :
    xP m ρ c ⊢ iprop((xP m ρ c -∗ WP c (kk (xv m ρ c)) Q) -∗ WP c (.op (.load xM (xR inb).toLoadRect hl) kk) Q) :=
  wp_ld c (M := xM) (r := xR inb) (S := Finset.univ) (f := xv m ρ c) (Finset.subset_univ _) (Memref.read_access_unit_zero (Elt F) cc0_stg0_0 hz _ _)
theorem wp_ldM {Q : α → sProp 𝕄} {inb} {hl : mM.view.LoadsAt (cR inb).toLoadRect} {kk : Vec F S1024x1 .f32 → Prog (TpuEff nD τ sig (Elt F) Λ₀ .tc) α} {v : Vec F S1024x1 .f32} :
    mP c v ⊢ iprop((mP c v -∗ WP c (kk v) Q) -∗ WP c (.op (.load mM (cR inb).toLoadRect hl) kk) Q) :=
  wp_ld c (M := mM) (r := cR inb) (S := Finset.univ) (f := v) (Finset.subset_univ _) (Memref.read_access_unit_zero (Elt F) cc0_scratch2 hz _ _)
theorem wp_ldS {Q : α → sProp 𝕄} {inb} {hl : sM.view.LoadsAt (cR inb).toLoadRect} {kk : Vec F S1024x1 .f32 → Prog (TpuEff nD τ sig (Elt F) Λ₀ .tc) α} {v : Vec F S1024x1 .f32} :
    sP c v ⊢ iprop((sP c v -∗ WP c (kk v) Q) -∗ WP c (.op (.load sM (cR inb).toLoadRect hl) kk) Q) :=
  wp_ld c (M := sM) (r := cR inb) (S := Finset.univ) (f := v) (Finset.subset_univ _) (Memref.read_access_unit_zero (Elt F) cc0_scratch3 hz _ _)

theorem wp_stM {Q : α → sProp 𝕄} {inb} {w v : Vec F S1024x1 .f32} {hx : (mM.access (cR inb)).Stores Finset.univ}
    {hm : (Finset.univ : Finset (cR inb).shape.Idx) = Finset.univ ∨ ∀ a, (cR inb).stride a = 1} {kk : PUnit → Prog (TpuEff nD τ sig (Elt F) Λ₀ .tc) α} :
    mP c v ⊢ iprop((mP c w -∗ WP c (kk ⟨⟩) Q) -∗ WP c (.op (.store mM (cR inb) w Finset.univ hx hm) kk) Q) := by
  iintro H
  iapply (wp_st c (M := mM) (r := cR inb) (w := w) (S := Finset.univ) (T := w) (cR_set_m _) (Memref.read_access_unit_zero (Elt F) cc0_scratch2 hz _ _))
  iexists v; unfold mP; iexact H
theorem wp_stS {Q : α → sProp 𝕄} {inb} {w v : Vec F S1024x1 .f32} {hx : (sM.access (cR inb)).Stores Finset.univ}
    {hm : (Finset.univ : Finset (cR inb).shape.Idx) = Finset.univ ∨ ∀ a, (cR inb).stride a = 1} {kk : PUnit → Prog (TpuEff nD τ sig (Elt F) Λ₀ .tc) α} :
    sP c v ⊢ iprop((sP c w -∗ WP c (kk ⟨⟩) Q) -∗ WP c (.op (.store sM (cR inb) w Finset.univ hx hm) kk) Q) := by
  iintro H
  iapply (wp_st c (M := sM) (r := cR inb) (w := w) (S := Finset.univ) (T := w) (cR_set_s _) (Memref.read_access_unit_zero (Elt F) cc0_scratch3 hz _ _))
  iexists v; unfold sP; iexact H

/-- A load of a slot of the weights. -/
theorem wp_ldW {Q : α → sProp 𝕄} {inb} {hl : wbM.view.LoadsAt (wbR off3 inb).toLoadRect} {kk : Vec F S1x2048x1024 .f32 → Prog (TpuEff nD τ sig (Elt F) Λ₀ .tc) α}
    (h3 : off3 = ![b, 0, 0]) :
    wD m c b k ⊢ iprop((wD m c b k -∗ WP c (kk (wv m c k)) Q) -∗ WP c (.op (.load wbM (wbR off3 inb).toLoadRect hl) kk) Q) :=
  wp_ld c (M := wbM) (r := wbR off3 inb) (S := band slot b (b + 1)) (f := slab (Wn m c) k) (by rw [wbR_set h3]) (wbR_read _ h3 _)

/-- A load of a slot of the products. -/
theorem wp_ldL {Q : α → sProp 𝕄} (G : ℕ → ℕ → F .f32) {inb} {hl : lbM.view.LoadsAt (lbR off3 inb).toLoadRect} {kk : Vec F S1x1024x1024 .f32 → Prog (TpuEff nD τ sig (Elt F) Λ₀ .tc) α}
    (h3 : off3 = ![b, 0, 0]) :
    lD c b G k ⊢ iprop((lD c b G k -∗ WP c (kk (slab (C := 1) (A := 1024) (B := 1024) G k)) Q) -∗ WP c (.op (.load lbM (lbR off3 inb).toLoadRect hl) kk) Q) :=
  wp_ld c (M := lbM) (r := lbR off3 inb) (S := band slot b (b + 1)) (f := slab G k) (by rw [lbR_set h3]) (lbR_read _ h3 _)

/-- A load of a slot of the products whose value is not used. -/
theorem wp_ldL_any {Q : α → sProp 𝕄} {inb} {hl : lbM.view.LoadsAt (lbR off3 inb).toLoadRect} {kk : Vec F S1x1024x1024 .f32 → Prog (TpuEff nD τ sig (Elt F) Λ₀ .tc) α}
    (h3 : off3 = ![b, 0, 0]) :
    lS c b ⊢ iprop((∀ v, lS c b -∗ WP c (kk v) Q) -∗ WP c (.op (.load lbM (lbR off3 inb).toLoadRect hl) kk) Q) := by
  unfold lS
  iintro ⟨%f, H⟩ Hk
  iapply (wp_ld c (M := lbM) (r := lbR off3 inb) (S := band slot b (b + 1)) (f := f) (by rw [lbR_set h3]) rfl) $$ H
  iintro H
  iapply Hk
  iexists f; iexact H

/-- A store to a slot of the products. -/
theorem wp_stL {Q : α → sProp 𝕄} (G : ℕ → ℕ → F .f32) {inb} {w : Vec F S1x1024x1024 .f32} {hx : (lbM.access (lbR off3 inb)).Stores Finset.univ}
    {hm : (Finset.univ : Finset (lbR off3 inb).shape.Idx) = Finset.univ ∨ ∀ a, (lbR off3 inb).stride a = 1} {kk : PUnit → Prog (TpuEff nD τ sig (Elt F) Λ₀ .tc) α}
    (h3 : off3 = ![b, 0, 0]) (hw : slab (C := 1) (A := 1024) (B := 1024) G k = w) :
    lS c b ⊢ iprop((lD c b G k -∗ WP c (kk ⟨⟩) Q) -∗ WP c (.op (.store lbM (lbR off3 inb) w Finset.univ hx hm) kk) Q) :=
  wp_st c (M := lbM) (r := lbR off3 inb) (w := w) (S := band slot b (b + 1)) (T := slab G k) (lbR_set h3 _) ((lbR_read _ h3 _).trans hw)

end Accesses

end Cert.KernelIdeal.Sharded

end
-- ==== Proof.KernelIdeal.First.lean ====
/-
# The first pass: products, running maximum and sum

The loop over the 16 chunks of the weights and the loop that sends the chunks the first left unsent.
-/
module

public import proofs.«01_k».proof.Proof.KernelIdeal.Pieces
public import Idealize.SL.BI.BigOpNat

@[expose] public section

noncomputable section

namespace Cert.KernelIdeal.Sharded

open Cert.KernelIdeal Cert.KernelIdeal.Gen Cert.Bands

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The chunks sent -/

section Sending
variable (c : Dev nD)

/-- The duties a device pays with its sends from chunk `n` on: its own send cell's and its peer's receive cell's. -/
def S1 (n : ℕ) : sProp 𝕄 := bigSep (Finset.Ico n 16) fun k => iprop(dutyTok ER (gDma c (5 + k)) 0 () ∗ dutyTok ER (gDma (peer c) (21 + k)) 0 ())
/-- The credit of the chunks sent before `n`. -/
def S2 (n : ℕ) : sProp 𝕄 := bigSep (Finset.range n) fun k => cred (tallyAt (gDma c (5 + k)) () NR)

theorem S1_step {n : ℕ} (hn : n < 16) :
    S1 (F := F) c n = iprop((dutyTok ER (gDma c (5 + n)) 0 () ∗ dutyTok ER (gDma (peer c) (21 + n)) 0 ()) ∗ S1 c (n + 1)) :=
  bigSep_Ico_succ_bot hn _
theorem S2_step (n : ℕ) : S2 (F := F) c (n + 1) = iprop(cred (tallyAt (gDma c (5 + n)) () NR) ∗ S2 c n) := bigSep_range_succ _ _

/-- With the chunks before `n` sent and those before `hi / 1024` computed: the half share of the computed ones not sent, the
    peer's columns they go to, the duties they pay, and the credit of the ones sent. -/
def Snd (n hi : ℕ) : sProp 𝕄 :=
  iprop(lB c (PosShare.left fullShare) (1024 * n) hi (Lg m ρ c) ∗ rAny (peer c) (1024 * n) 16384 ∗ S1 c n ∗ S2 c n)

/-- One chunk sent. -/
theorem wp_sendNext {α : Type} {Q : α → sProp 𝕄} {d : Dev nD} {off : Fin 2 → ℕ} {offs : Fin 1 → ℕ} {k hi : ℕ} {inb inbs}
    {hsc : (rSl off inb : Memref sig (Dev.tc d : Thread nD τ).2.kind _ _ _).view.ref.isScScratch = false}
    {hsrc : (lSl off inb).view.WordExact} {hdst : (rSl off inb).view.WordExact}
    {hsem : DmaTarget.Typed .hbm (.dma (sem16 cc0_scratch9 offs inbs))
      (.remote (Dev.tc d : Thread nD τ) (rSl off inb) (.dma (sem16 cc0_scratch8 offs inbs)) hsc)}
    {kk : PUnit → Prog (TpuEff nD τ sig (Elt F) Λ₀ .tc) α}
    (hd : d = peer c) (h : off = ![0, 1024 * k]) (hs : offs = ![k]) (hk : k < 16) (hhi : 1024 * k + 1024 ≤ hi)
    {O₁ : CellTallies nD τ sig Unit} (O : CellTallies nD τ sig Unit) (hO : O₁ = O + tallyAt (gDma (peer c) (21 + k)) () NR) :
    iprop(recs m ρ ∗ Snd m ρ c k hi ∗ ow c O₁)
      ⊢ iprop(((Snd m ρ c (k + 1) hi ∗ ow c O) -∗ WP c (kk ⟨⟩) Q)
          -∗ WP c (.op (.enqueueDma (lSl off inb) (.remote (Dev.tc d : Thread nD τ) (rSl off inb) (.dma (sem16 cc0_scratch8 offs inbs)) hsc)
            (.dma (sem16 cc0_scratch9 offs inbs)) hsrc hdst hsem) kk) Q) := by
  unfold Snd
  iintro ⟨#Hr, ⟨Hl, Hd, Ht, Hc⟩, HO⟩ Hk
  ihave Hl := (lB_split c _ _ (Nat.le_add_right (1024 * k) 1024) hhi).1 $$ Hl
  icases Hl with ⟨Hl₁, Hl₂⟩
  ihave Hd := (rAny_split (peer c) (Nat.le_add_right (1024 * k) 1024) (by omega)) $$ Hd
  icases Hd with ⟨Hd₁, Hd₂⟩
  ihave Ht := (Entails.of_eq (S1_step c hk)) $$ Ht
  icases Ht with ⟨⟨Ht₁, Ht₂⟩, Ht⟩
  iapply (wp_sendChunk m ρ c hd h hs hk O hO) $$ [Hl₁ Hd₁ HO Ht₁ Ht₂]
  · isplitr; · iexact Hr
    isplitl [Hl₁]; · iexact Hl₁
    isplitl [Hd₁]; · iexact Hd₁
    isplitl [HO]; · iexact HO
    isplitl [Ht₁] <;> iassumption
  iintro ⟨Hc₁, HO⟩
  iapply Hk
  isplitr [HO]
  · rw [mul_add_one]
    isplitl [Hl₂]; · iexact Hl₂
    isplitl [Hd₂]; · iexact Hd₂
    isplitl [Ht]; · iexact Ht
    rw [S2_step]
    isplitl [Hc₁] <;> iassumption
  iexact HO

end Sending

/-! ## The loop over the chunks -/

section First
variable (c : Dev nD)

/-- Chunk `k` on its way into its slot; after the last, the slot and its semaphore. -/
def wHead (k : ℕ) : sProp 𝕄 :=
  if k < 16 then Fl c (1 + k % 2) NW iprop(wD m c (k % 2) k ∗ wB m c (1024 * k) (1024 * k + 1024)) else iprop(wS c (k % 2) ∗ sv c (1 + k % 2))

/-- Before trip `k`. -/
def I1 (k : ℕ) : sProp 𝕄 :=
  iprop(recs m ρ ∗ xP m ρ c ∗ mP c (mst m ρ c k) ∗ sP c (sst m ρ c k)
    ∗ (wB m c 0 (1024 * k) ∗ wB m c (1024 * (k + 1)) 16384 ∗ wHead m c k ∗ wS c ((k + 1) % 2) ∗ sv c (1 + (k + 1) % 2))
    ∗ (lS c (k % 2) ∗ lS c ((k + 1) % 2) ∗ sv c (3 + k % 2) ∗ sv c (3 + (k + 1) % 2))
    ∗ (lB c (PosShare.right fullShare) 0 (1024 * k) (Lg m ρ c) ∗ lAny c (1024 * k) 16384)
    ∗ Snd m ρ c (min k 3) (1024 * k) ∗ ow c (OM c (min k 3)))

abbrev part1 (a b : BitVec 32) (k : Fin k0_t1_loop.trips) := k0_part1 (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13 a b k
abbrev part2 (k : Fin k0_t1_loop.trips) (a : BitVec 32) := k0_part2 (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13 k a
abbrev part3 (k : Fin k0_t1_loop.trips) (a b d : BitVec 32) := k0_part3 (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13 k a b d
abbrev body1 (d0 : Dev nD) (v5 v8 v9 : BitVec 32) := k0_t1_body (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13 d0 v5 v8 v9
abbrev body2 (d0 : Dev nD) (v5 v8 v9 : BitVec 32) := k0_t2_body (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13 d0 v5 v8 v9

/-- The next chunk's fetch. -/
theorem wp_part1 {β : Type} {Q : β → sProp 𝕄} (a b : BitVec 32) (k : Fin k0_t1_loop.trips) {kk : _ → Prog (TpuEff nD τ sig (Elt F) Λ₀ .tc) β} :
    iprop(wB m c (1024 * (k.val + 1)) 16384 ∗ wS c ((k.val + 1) % 2) ∗ sv c (1 + (k.val + 1) % 2))
      ⊢ iprop((∀ r, iprop(wB m c (1024 * (k.val + 2)) 16384 ∗ wHead m c (k.val + 1)) -∗ WP c (kk r) Q) -∗ WP c (part1 a b k >>= kk) Q) := by
  have hk : k.val < 16 := trips1 ▸ k.isLt
  unfold part1
  rw [k0_part1_eq_skeleton]; unfold k0_part1_skel wHead
  iintro ⟨Hw, Hs, Hv⟩ Hk
  by_cases h : k0_cond1 k = 1#1
  · have h' := (cond1_iff k).mp h
    rw [dif_pos h, if_pos h']
    simp only [Prog.lift, Prog.bind_op, Prog.bind_ret, Prog.pure_eq_ret]
    ihave Hw := (wB_split m c (Nat.le_add_right (1024 * (k.val + 1)) 1024) (by omega)).1 $$ Hw
    icases Hw with ⟨Hw₁, Hw₂⟩
    iapply (wp_fetchW m c (off3_at k) (off2_eq k) (off1_eq k)) $$ [Hw₁ Hs Hv]
    · isplitl [Hw₁]; · iexact Hw₁
      isplitl [Hs] <;> iassumption
    iintro Hf
    iapply Hk
    isplitl [Hw₂]
    · rw [show 1024 * (k.val + 2) = 1024 * (k.val + 1) + 1024 from by omega]; iexact Hw₂
    iexact Hf
  · have h' : ¬ k.val + 1 < 16 := fun hh => h ((cond1_iff k).mpr hh)
    rw [dif_neg h, if_neg h']
    simp only [Prog.lift, Prog.bind_op, Prog.bind_ret, Prog.pure_eq_ret]
    iapply Hk
    isplitl [Hw]
    · rw [wB_none m c (by omega), wB_none m c (by omega)]; iempintro
    isplitl [Hs] <;> iassumption

/-- The chunk's products, the new running maximum and sum. -/
theorem wp_part2 {β : Type} {Q : β → sProp 𝕄} (a : BitVec 32) (k : Fin k0_t1_loop.trips) {O : CellTallies nD τ sig Unit} (hO : Mid O)
    {kk : _ → Prog (TpuEff nD τ sig (Elt F) Λ₀ .tc) β} :
    iprop(recs m ρ ∗ xP m ρ c ∗ mP c (mst m ρ c k.val) ∗ sP c (sst m ρ c k.val) ∗ wHead m c k.val ∗ lS c (k.val % 2) ∗ ow c O)
      ⊢ iprop((∀ r, iprop(xP m ρ c ∗ mP c (mst m ρ c (k.val + 1)) ∗ sP c (sst m ρ c (k.val + 1))
            ∗ (wS c (k.val % 2) ∗ sv c (1 + k.val % 2) ∗ wB m c (1024 * k.val) (1024 * k.val + 1024)) ∗ lD c (k.val % 2) (Lg m ρ c) k.val ∗ ow c O) -∗ WP c (kk r) Q)
          -∗ WP c (part2 k a >>= kk) Q) := by
  have hk : k.val < 16 := trips1 ▸ k.isLt
  unfold part2
  rw [k0_part2_eq_skeleton]; unfold k0_part2_skel wHead
  rw [if_pos hk]
  simp only [Prog.lift, Prog.bind_op, Prog.bind_ret, Prog.pure_eq_ret]
  iintro ⟨#Hr, Hx, Hm, Hs, Hf, Hl, HO⟩ Hk
  iapply (wp_waitF m ρ c (D := iprop(wD m c (k.val % 2) k.val ∗ wB m c (1024 * k.val) (1024 * k.val + 1024))) (wSem_eq (off4_eq k) _) (by omega) crd_wb hO) $$ [Hf HO]
  · isplitr; · iexact Hr
    isplitl [Hf] <;> iassumption
  iintro ⟨⟨Hw, Hb⟩, Hv, HO⟩
  iapply (wp_ldX m ρ c) $$ Hx; iintro Hx
  iapply (wp_ldW m c (off7_eq k)) $$ Hw; iintro Hw
  iapply (wp_ldM c) $$ Hm; iintro Hm
  iapply (wp_ldS c) $$ Hs; iintro Hs
  iapply (wp_ldS c) $$ Hs; iintro Hs
  iapply (wp_stS c) $$ Hs; iintro Hs
  iapply (wp_ldM c) $$ Hm; iintro Hm
  iapply (wp_stM c) $$ Hm; iintro Hm
  iapply (wp_ldL_any c (off8_eq k)) $$ Hl; iintro %v Hl
  iapply (wp_stL c (Lg m ρ c) (k := k.val) (off8_eq k) (slab_ofChunks _ _)) $$ Hl; iintro Hl
  iapply Hk
  isplitl [Hx]; · iexact Hx
  isplitl [Hm]; · iexact Hm
  isplitl [Hs]; · iexact Hs
  isplitl [Hw Hv Hb]
  · isplitl [Hw]; · iapply (wD_any m c _ _) $$ Hw
    isplitl [Hv] <;> iassumption
  isplitl [Hl] <;> iassumption

set_option maxHeartbeats 1600000 in
/-- One trip. -/
theorem trip1 (v5 v8 v9 : BitVec 32) (k : Fin k0_t1_loop.trips) (acc : Unit) :
    I1 m ρ c k.val ⊢ WP c (body1 c v5 v8 v9 k acc) (fun _ => I1 m ρ c (k.val + 1)) := by
  have hk : k.val < 16 := trips1 ▸ k.isLt
  have e2 : (k.val + 1 + 1) % 2 = k.val % 2 := by omega
  unfold body1 k0_t1_body I1
  iintro ⟨#Hr, Hx, Hm, Hs, ⟨Hw₀, Hw, Hf, Hws, Hwv⟩, ⟨Hl, Hl', Hlv, Hlv'⟩, ⟨Hb, Ha⟩, Hsnd, HO⟩
  iapply (wp_part1 m c _ _ k) $$ [Hw Hws Hwv]
  · isplitl [Hw]; · iexact Hw
    isplitl [Hws] <;> iassumption
  iintro %r ⟨Hw, Hf'⟩
  obtain ⟨r₁, r₂⟩ := r
  iapply (wp_part2 m ρ c _ k (Hi.OM c _).mid) $$ [Hx Hm Hs Hf Hl HO]
  · isplitr; · iexact Hr
    isplitl [Hx]; · iexact Hx
    isplitl [Hm]; · iexact Hm
    isplitl [Hs]; · iexact Hs
    isplitl [Hf]; · iexact Hf
    isplitl [Hl] <;> iassumption
  iintro %r ⟨Hx, Hm, Hs, ⟨Hws, Hwv, Hw₁⟩, Hl, HO⟩
  obtain ⟨r₃, r₄⟩ := r
  dsimp only
  rw [k0_part3_eq_skeleton]; unfold k0_part3_skel
  simp only [Prog.lift, Prog.bind_op, Prog.bind_ret, Prog.pure_eq_ret]
  ihave Ha := (lAny_split c (Nat.le_add_right (1024 * k.val) 1024) (by omega)) $$ Ha
  icases Ha with ⟨Ha₁, Ha⟩
  iapply (wp_storeL c (Lg m ρ c) (k := k.val) (k0_off9_eq k) (off10_eq k) (off4_eq k)) $$ [Hl Ha₁ Hlv]
  · isplitl [Hl]; · iexact Hl
    isplitl [Ha₁] <;> iassumption
  iintro Hfl
  iapply (wp_waitF m ρ c (O := OM c (min k.val 3)) (D := iprop(lB c fullShare (1024 * k.val) (1024 * k.val + 1024) (Lg m ρ c) ∗ lD c (k.val % 2) (Lg m ρ c) k.val)) (stSem_eq (off4_eq k) _) (by omega) crd_l (Hi.OM c _).mid) $$ [Hfl HO]
  · isplitr; · iexact Hr
    isplitl [Hfl] <;> iassumption
  iintro ⟨⟨Hb₁, Hl⟩, Hlv, HO⟩
  ihave Hb₁ := (lB_share c _).1 $$ Hb₁
  icases Hb₁ with ⟨Hbl, Hbr⟩
  ihave Hl := (lD_any c _ _ _) $$ Hl
  -- the chunk joins the ones sent from
  ihave Hsnd : iprop(Snd m ρ c (min k.val 3) (1024 * k.val + 1024)) $$ [Hsnd Hbl]
  · unfold Snd
    icases Hsnd with ⟨H₁, H⟩
    isplitl [H₁ Hbl]
    · iapply (lB_split c _ _ (mid := 1024 * k.val) (by omega) (by omega)).2
      isplitl [H₁] <;> iassumption
    iexact H
  -- what holds after the trip, the sends apart
  ihave Hrest : iprop(xP m ρ c ∗ mP c (mst m ρ c (k.val + 1)) ∗ sP c (sst m ρ c (k.val + 1))
      ∗ (wB m c 0 (1024 * (k.val + 1)) ∗ wB m c (1024 * (k.val + 1 + 1)) 16384 ∗ wHead m c (k.val + 1) ∗ wS c ((k.val + 1 + 1) % 2) ∗ sv c (1 + (k.val + 1 + 1) % 2))
      ∗ (lS c ((k.val + 1) % 2) ∗ lS c ((k.val + 1 + 1) % 2) ∗ sv c (3 + (k.val + 1) % 2) ∗ sv c (3 + (k.val + 1 + 1) % 2))
      ∗ (lB c (PosShare.right fullShare) 0 (1024 * (k.val + 1)) (Lg m ρ c) ∗ lAny c (1024 * (k.val + 1)) 16384))
    $$ [Hx Hm Hs Hw₀ Hw₁ Hw Hf' Hws Hwv Hl Hl' Hlv Hlv' Hb Hbr Ha]
  · rw [e2, mul_add_one 1024 k.val]
    isplitl [Hx]; · iexact Hx
    isplitl [Hm]; · iexact Hm
    isplitl [Hs]; · iexact Hs
    isplitl [Hw₀ Hw₁ Hw Hf' Hws Hwv]
    · isplitl [Hw₀ Hw₁]
      · iapply (wB_split m c (mid := 1024 * k.val) (by omega) (by omega)).2
        isplitl [Hw₀] <;> iassumption
      isplitl [Hw]; · iexact Hw
      isplitl [Hf']; · iexact Hf'
      isplitl [Hws] <;> iassumption
    isplitl [Hl Hl' Hlv Hlv']
    · isplitl [Hl']; · iexact Hl'
      isplitl [Hl]; · iexact Hl
      isplitl [Hlv'] <;> iassumption
    isplitl [Hb Hbr]
    · iapply (lB_split c _ _ (mid := 1024 * k.val) (by omega) (by omega)).2
      isplitl [Hb] <;> iassumption
    iexact Ha
  icases Hrest with ⟨Hx, Hm, Hs, Hw, Hl, Hb⟩
  by_cases h : k0_cond2 k = 1#1
  · have h' := (cond2_iff k).mp h
    rw [dif_pos h]
    rw [show min k.val 3 = k.val by omega, show min (k.val + 1) 3 = k.val + 1 by omega]
    iapply (wp_sendNext m ρ c (k := k.val) (hi := 1024 * k.val + 1024) (dev2_eq c _) (k0_off12_eq k) (k0_off11_eq k) hk (le_refl _) (OM c (k.val + 1)) (OM_step c hk)) $$ [Hsnd HO]
    · isplitr; · iexact Hr
      isplitl [Hsnd] <;> iassumption
    iintro ⟨Hsnd, HO⟩
    iapply (wp_done c)
    isplitr; · iexact Hr
    isplitl [Hx]; · iexact Hx
    isplitl [Hm]; · iexact Hm
    isplitl [Hs]; · iexact Hs
    isplitl [Hw]; · iexact Hw
    isplitl [Hl]; · iexact Hl
    isplitl [Hb]; · iexact Hb
    rw [mul_add_one 1024 k.val]
    isplitl [Hsnd] <;> iassumption
  · have h' : ¬ k.val < 3 := fun hh => h ((cond2_iff k).mpr hh)
    rw [dif_neg h]
    rw [show min k.val 3 = 3 by omega, show min (k.val + 1) 3 = 3 by omega]
    iapply (wp_done c)
    isplitr; · iexact Hr
    isplitl [Hx]; · iexact Hx
    isplitl [Hm]; · iexact Hm
    isplitl [Hs]; · iexact Hs
    isplitl [Hw]; · iexact Hw
    isplitl [Hl]; · iexact Hl
    isplitl [Hb]; · iexact Hb
    rw [mul_add_one 1024 k.val]
    isplitl [Hsnd] <;> iassumption

/-- The loop. -/
theorem wp_loop1 (v5 v8 v9 : BitVec 32) {β : Type} {Q : β → sProp 𝕄} {kk : Unit → Prog (TpuEff nD τ sig (Elt F) Λ₀ .tc) β} :
    I1 m ρ c 0 ⊢ iprop((I1 m ρ c 16 -∗ WP c (kk ⟨⟩) Q) -∗ WP c (Scf.Loop.for k0_t1_loop k0_t1_ok ⟨⟩ (body1 c v5 v8 v9) >>= kk) Q) := by
  iintro HI Hk
  iapply (Scf.wp_for_bind frame (wpE (defs₀ (F := F)) 𝒱₀ (c : Thread nD τ) none) Set.univ k0_t1_loop.lb k0_t1_loop.ub k0_t1_loop.st k0_t1_ok ⟨⟩
    (body1 c v5 v8 v9) (fun k _ => I1 m ρ c k) (fun k acc => trip1 m ρ c v5 v8 v9 k acc)) $$ HI
  iintro %acc HI
  iapply Hk
  iapply (Entails.of_eq (congrArg (I1 m ρ c) trips1)) $$ HI

/-! ## The loop over the sends left -/

/-- Before trip `j`. -/
def I2 (j : ℕ) : sProp 𝕄 := iprop(recs m ρ ∗ Snd m ρ c (j + 3) 16384 ∗ ow c (OR c (j + 3)))

theorem trip2 (v5 v8 v9 : BitVec 32) (k : Fin k0_t2_loop.trips) (acc : Unit) :
    I2 m ρ c k.val ⊢ WP c (body2 c v5 v8 v9 k acc) (fun _ => I2 m ρ c (k.val + 1)) := by
  have hk : k.val < 13 := trips2 ▸ k.isLt
  unfold body2 k0_t2_body I2
  simp only [Prog.lift, Prog.bind_op, Prog.bind_ret, Prog.pure_eq_ret]
  iintro ⟨#Hr, Hsnd, HO⟩
  iapply (wp_sendNext m ρ c (k := k.val + 3) (hi := 16384) (dev4_eq c) (off14_at k) (k0_off13_eq k) (by omega) (by omega) (OR c (k.val + 3 + 1)) (OR_step c (by omega))) $$ [Hsnd HO]
  · isplitr; · iexact Hr
    isplitl [Hsnd] <;> iassumption
  iintro ⟨Hsnd, HO⟩
  iapply (wp_done c)
  rw [show k.val + 1 + 3 = k.val + 3 + 1 by omega]
  isplitr; · iexact Hr
  isplitl [Hsnd] <;> iassumption

theorem wp_loop2 (v5 v8 v9 : BitVec 32) {β : Type} {Q : β → sProp 𝕄} {kk : Unit → Prog (TpuEff nD τ sig (Elt F) Λ₀ .tc) β} :
    I2 m ρ c 0 ⊢ iprop((I2 m ρ c 13 -∗ WP c (kk ⟨⟩) Q) -∗ WP c (Scf.Loop.for k0_t2_loop k0_t2_ok ⟨⟩ (body2 c v5 v8 v9) >>= kk) Q) := by
  iintro HI Hk
  iapply (Scf.wp_for_bind frame (wpE (defs₀ (F := F)) 𝒱₀ (c : Thread nD τ) none) Set.univ k0_t2_loop.lb k0_t2_loop.ub k0_t2_loop.st k0_t2_ok ⟨⟩
    (body2 c v5 v8 v9) (fun k _ => I2 m ρ c k) (fun k acc => trip2 m ρ c v5 v8 v9 k acc)) $$ HI
  iintro %acc HI
  iapply Hk
  iapply (Entails.of_eq (congrArg (I2 m ρ c) trips2)) $$ HI

end First

end Cert.KernelIdeal.Sharded

end
-- ==== Proof.KernelIdeal.Second.lean ====
/-
# The second pass: normalising the two halves

The loops that read a half back chunk by chunk, normalise it and store it in the result, and the loop that awaits the sends.
-/
module

public import proofs.«01_k».proof.Proof.KernelIdeal.First

@[expose] public section

noncomputable section

namespace Cert.KernelIdeal.Sharded

open Cert.KernelIdeal Cert.KernelIdeal.Gen Cert.Bands

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Second
variable (c : Dev nD)

/-! ## Storing normalised chunks -/

/-- A slot before its chunk `i`: chunk `i - 2` on its way out, or nothing yet. -/
def wslot (B : ℕ) (G : ℕ → ℕ → F .f32) (i : ℕ) : sProp 𝕄 :=
  if 2 ≤ i then Fl c (41 + i % 2) NO iprop(oB m ρ c (B + 1024 * (i - 2)) (B + 1024 * (i - 2) + 1024) ∗ lD c (i % 2) G (i - 2))
  else iprop(lS c (i % 2) ∗ sv c (41 + i % 2))

/-- The half of the result from column `B`, its first `i` chunks stored or on their way. -/
def Half (B : ℕ) (G : ℕ → ℕ → F .f32) (i : ℕ) : sProp 𝕄 :=
  iprop(oB m ρ c B (B + 1024 * (i - 2)) ∗ oAny c (B + 1024 * i) (B + 16384) ∗ wslot m ρ c B G i ∗ wslot m ρ c B G (i + 1))

/-- The same with slot `i` free. -/
def Open (B : ℕ) (G : ℕ → ℕ → F .f32) (i : ℕ) : sProp 𝕄 :=
  iprop(lS c (i % 2) ∗ oB m ρ c B (B + 1024 * (i - 1)) ∗ oAny c (B + 1024 * i) (B + 16384) ∗ sv c (41 + i % 2) ∗ wslot m ρ c B G (i + 1))

section Half
variable (B : ℕ) (G : ℕ → ℕ → F .f32) {i : ℕ}

/-- The first two slots are free. -/
theorem half_first (hi : ¬ 2 ≤ i) : Half m ρ c B G i ⊢ Open m ρ c B G i := by
  unfold Half Open
  rw [show wslot m ρ c B G i = iprop(lS c (i % 2) ∗ sv c (41 + i % 2)) from if_neg hi, show i - 2 = i - 1 by omega]
  iintro ⟨Ho, Ha, ⟨Hl, Hv⟩, Hw⟩
  isplitl [Hl]; · iexact Hl
  isplitl [Ho]; · iexact Ho
  isplitl [Ha]; · iexact Ha
  isplitl [Hv] <;> iassumption

/-- A later one is after its last store is awaited. -/
theorem half_wait (hi : 2 ≤ i) :
    Half m ρ c B G i ⊢ iprop(Fl c (41 + i % 2) NO iprop(oB m ρ c (B + 1024 * (i - 2)) (B + 1024 * (i - 2) + 1024) ∗ lD c (i % 2) G (i - 2))
      ∗ (iprop((oB m ρ c (B + 1024 * (i - 2)) (B + 1024 * (i - 2) + 1024) ∗ lD c (i % 2) G (i - 2)) ∗ sv c (41 + i % 2)) -∗ Open m ρ c B G i)) := by
  unfold Half Open
  rw [show wslot m ρ c B G i = Fl c (41 + i % 2) NO iprop(oB m ρ c (B + 1024 * (i - 2)) (B + 1024 * (i - 2) + 1024) ∗ lD c (i % 2) G (i - 2)) from if_pos hi]
  iintro ⟨Ho, Ha, Hf, Hw⟩
  isplitl [Hf]; · iexact Hf
  iintro ⟨⟨Ho', Hl⟩, Hv⟩
  isplitl [Hl]; · iapply (lD_any c _ _ _) $$ Hl
  isplitl [Ho Ho']
  · rw [show B + 1024 * (i - 1) = B + 1024 * (i - 2) + 1024 by omega]
    iapply (oB_split m ρ c (mid := B + 1024 * (i - 2)) (by omega) (by omega)).2
    isplitl [Ho] <;> iassumption
  isplitl [Ha]; · iexact Ha
  isplitl [Hv] <;> iassumption

/-- Everything but the slot, for the chunk to be stored from it. -/
def Rest (i : ℕ) : sProp 𝕄 :=
  iprop(oB m ρ c B (B + 1024 * (i - 1)) ∗ oAny c (B + 1024 * i) (B + 16384) ∗ sv c (41 + i % 2) ∗ wslot m ρ c B G (i + 1))

theorem open_rest : Open m ρ c B G i ⊢ iprop(lS c (i % 2) ∗ Rest m ρ c B G i) := by unfold Open Rest; exact .rfl

theorem rest_put (hi : i < 16) :
    Rest m ρ c B G i ⊢ iprop(oAny c (B + 1024 * i) (B + 1024 * i + 1024) ∗ sv c (41 + i % 2)
      ∗ (Fl c (41 + i % 2) NO iprop(oB m ρ c (B + 1024 * i) (B + 1024 * i + 1024) ∗ lD c (i % 2) G i) -∗ Half m ρ c B G (i + 1))) := by
  unfold Half Rest
  iintro ⟨Ho, Ha, Hv, Hw⟩
  ihave Ha := (oAny_split c (Nat.le_add_right (B + 1024 * i) 1024) (by omega)) $$ Ha
  icases Ha with ⟨Ha₁, Ha⟩
  isplitl [Ha₁]; · iexact Ha₁
  isplitl [Hv]; · iexact Hv
  iintro Hf
  rw [show i + 1 - 2 = i - 1 by omega, show B + 1024 * (i + 1) = B + 1024 * i + 1024 by omega]
  isplitl [Ho]; · iexact Ho
  isplitl [Ha]; · iexact Ha
  isplitl [Hw]; · iexact Hw
  rw [show wslot m ρ c B G (i + 1 + 1) = Fl c (41 + i % 2) NO iprop(oB m ρ c (B + 1024 * i) (B + 1024 * i + 1024) ∗ lD c (i % 2) G i) from by
    unfold wslot; rw [if_pos (by omega), show (i + 1 + 1) % 2 = i % 2 by omega, show i + 1 + 1 - 2 = i by omega]]
  iexact Hf

/-- Nothing stored yet. -/
theorem half_zero : iprop(oAny c B (B + 16384) ∗ (lS c 0 ∗ lS c 1) ∗ sv c 41 ∗ sv c 42) ⊢ Half m ρ c B G 0 := by
  unfold Half
  rw [show wslot m ρ c B G 0 = iprop(lS c 0 ∗ sv c 41) from if_neg (by omega), show wslot m ρ c B G (0 + 1) = iprop(lS c 1 ∗ sv c 42) from if_neg (by omega),
    oB_none m ρ c (by omega)]
  iintro ⟨Ha, ⟨Hl, Hl'⟩, Hv, Hv'⟩
  isplitr; · iempintro
  isplitl [Ha]; · iexact Ha
  isplitl [Hl Hv]
  · isplitl [Hl] <;> iassumption
  isplitl [Hl'] <;> iassumption

/-- Everything stored, the last two chunks still on their way. -/
theorem half_last :
    Half m ρ c B G 16 ⊢ iprop(Fl c 41 NO iprop(oB m ρ c (B + 14336) (B + 15360) ∗ lD c 0 G 14)
      ∗ Fl c 42 NO iprop(oB m ρ c (B + 15360) (B + 16384) ∗ lD c 1 G 15) ∗ oB m ρ c B (B + 14336)) := by
  unfold Half
  rw [show wslot m ρ c B G 16 = Fl c 41 NO iprop(oB m ρ c (B + 14336) (B + 15360) ∗ lD c 0 G 14) from if_pos (by omega),
    show wslot m ρ c B G (16 + 1) = Fl c 42 NO iprop(oB m ρ c (B + 15360) (B + 16384) ∗ lD c 1 G 15) from if_pos (by omega)]
  iintro ⟨Ho, Ha, Hf, Hf'⟩
  ihave Ha := (oAny_none c (by omega)) $$ Ha
  isplitl [Hf]; · iexact Hf
  isplitl [Hf']; · iexact Hf'
  iexact Ho

end Half

abbrev part4 (d0 : Dev nD) (v17 : BitVec 32) (v59 v68 : FVec F S1024x1 .f32) (a b : BitVec 32) (k : Fin k0_t3_loop.trips) := k0_part4 (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13 d0 v17 v59 v68 a b k
abbrev part5 (d0 : Dev nD) (v5 v8 v9 v19 a b : BitVec 32) (k : Fin k0_t4_loop.trips) := k0_part5 (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13 d0 v5 v8 v9 v19 a b k
abbrev body3 (d0 : Dev nD) (v17 v52 v53 : BitVec 32) (v55 v56 v57 v58 : Vec F S1024x1 .f32) := k0_t3_body (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13 d0 v17 v52 v53 v55 v56 v57 v58
abbrev body4 (d0 : Dev nD) (v5 v8 v9 v19 : BitVec 32) (v59 v68 : FVec F S1024x1 .f32) (a : BitVec 32) := k0_t4_body (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13 d0 v5 v8 v9 v19 v59 v68 a
abbrev body5 := k0_t5_body (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13

/-! ## The own half -/

/-- Before trip `k`. -/
def I3 (k : ℕ) : sProp 𝕄 :=
  iprop(recs m ρ ∗ Half m ρ c (ownB c) (Nm m ρ c (Lg m ρ c)) k ∗ lB c (PosShare.right fullShare) 0 16384 (Lg m ρ c) ∗ (sv c (39 + k % 2) ∗ sv c (39 + (k + 1) % 2)) ∗ ow c 0)

set_option maxHeartbeats 1600000 in
theorem trip3 (v17 v52 v53 : BitVec 32) (k : Fin k0_t3_loop.trips) (acc : Unit) :
    I3 m ρ c k.val ⊢ WP c (body3 c v17 v52 v53 (mst m ρ c 16) (sst m ρ c 16) (mst m ρ (peer c) 16) (sst m ρ (peer c) 16) k acc) (fun _ => I3 m ρ c (k.val + 1)) := by
  have hk : k.val < 16 := trips3 ▸ k.isLt
  unfold body3 k0_t3_body I3
  rw [k0_part4_eq_skeleton]; unfold k0_part4_skel
  simp only [Prog.lift, Prog.bind_op, Prog.bind_ret, Prog.pure_eq_ret]
  iintro ⟨#Hr, Hh, Hb, ⟨Hv, Hv'⟩, HO⟩
  by_cases h : k0_cond3 k = 1#1
  case' pos =>
    have h' := (cond3_iff k).mp h
    rw [dif_pos h]
    ihave Hh := (half_wait m ρ c _ _ h') $$ Hh
    icases Hh with ⟨Hf, Hh⟩
    simp only [Prog.bind_op, Prog.bind_ret]
    iapply (wp_waitF m ρ c (D := iprop(oB m ρ c (ownB c + 1024 * (k.val - 2)) (ownB c + 1024 * (k.val - 2) + 1024) ∗ lD c (k.val % 2) (Nm m ρ c (Lg m ρ c)) (k.val - 2))) (O := 0)
      (wrSem_eq (off15_eq k) _) (by omega) crd_o (Hi.zero.mid)) $$ [Hf HO]
    · isplitr; · iexact Hr
      isplitl [Hf] <;> iassumption
    iintro ⟨HD, Hwv, HO⟩
    ihave Hh := Hh $$ [HD Hwv]
    · isplitl [HD] <;> iassumption
  case' neg =>
    have h' : ¬ 2 ≤ k.val := fun hh => h ((cond3_iff k).mpr hh)
    rw [dif_neg h]
    ihave Hh := (half_first m ρ c _ _ h') $$ Hh
    simp only [Prog.bind_op, Prog.bind_ret]
  all_goals
    ihave Hh := (open_rest m ρ c _ _) $$ Hh
    icases Hh with ⟨Hl, Hh⟩
    ihave Hb := (lB_split c _ _ (mid := 1024 * k.val) (by omega) (by omega)).1 $$ Hb
    icases Hb with ⟨Hb₁, Hb⟩
    ihave Hb := (lB_split c _ _ (Nat.le_add_right (1024 * k.val) 1024) (by omega)).1 $$ Hb
    icases Hb with ⟨Hb₂, Hb₃⟩
    iapply (wp_fetchL c (PosShare.right fullShare) (Lg m ρ c) (k := k.val) (k0_off20_eq k) (off19_eq k) (off18_eq k)) $$ [Hb₂ Hl Hv]
    · isplitl [Hb₂]; · iexact Hb₂
      isplitl [Hl] <;> iassumption
    iintro Hf
    iapply (wp_waitF m ρ c (D := iprop(lD c (k.val % 2) (Lg m ρ c) k.val ∗ lB c (PosShare.right fullShare) (1024 * k.val) (1024 * k.val + 1024) (Lg m ρ c))) (O := 0)
      (rdSem_eq (off18_eq k) _) (by omega) crd_lb (Hi.zero.mid)) $$ [Hf HO]
    · isplitr; · iexact Hr
      isplitl [Hf] <;> iassumption
    iintro ⟨⟨Hl, Hb₂⟩, Hv, HO⟩
    iapply (wp_ldL c (Lg m ρ c) (off21_eq k)) $$ Hl; iintro Hl
    iapply (wp_ldL c (Lg m ρ c) (off21_eq k)) $$ Hl; iintro Hl
    ihave Hl := (lD_any c _ _ _) $$ Hl
    iapply (wp_stL c (Nm m ρ c (Lg m ρ c)) (k := k.val) (off21_eq k) (slab_ofChunks _ _)) $$ Hl; iintro Hl
    ihave Hh := (rest_put m ρ c _ _ hk) $$ Hh
    icases Hh with ⟨Ho, Hwv, Hh⟩
    iapply (wp_storeO m ρ c (Nm m ρ c (Lg m ρ c)) (k := k.val) (off22_at c k) (off19_eq k) (off18_eq k)
      (fun p q hq => by rw [add_assoc]; exact Out_own m ρ c (by omega))) $$ [Hl Ho Hwv]
    · isplitl [Hl]; · iexact Hl
      isplitl [Ho] <;> iassumption
    iintro Hf
    ihave Hh := Hh $$ Hf
    iapply (wp_done c)
    rw [show (k.val + 1 + 1) % 2 = k.val % 2 by omega]
    isplitr; · iexact Hr
    isplitl [Hh]; · iexact Hh
    isplitl [Hb₁ Hb₂ Hb₃]
    · iapply (lB_split c _ _ (mid := 1024 * k.val) (by omega) (by omega)).2
      isplitl [Hb₁]; · iexact Hb₁
      iapply (lB_split c _ _ (Nat.le_add_right (1024 * k.val) 1024) (by omega)).2
      isplitl [Hb₂] <;> iassumption
    isplitl [Hv Hv']
    · isplitl [Hv'] <;> iassumption
    iexact HO

theorem wp_loop3 (v17 v52 v53 : BitVec 32) {β : Type} {Q : β → sProp 𝕄} {kk : Unit → Prog (TpuEff nD τ sig (Elt F) Λ₀ .tc) β} :
    I3 m ρ c 0 ⊢ iprop((I3 m ρ c 16 -∗ WP c (kk ⟨⟩) Q)
      -∗ WP c (Scf.Loop.for k0_t3_loop k0_t3_ok ⟨⟩ (body3 c v17 v52 v53 (mst m ρ c 16) (sst m ρ c 16) (mst m ρ (peer c) 16) (sst m ρ (peer c) 16)) >>= kk) Q) := by
  iintro HI Hk
  iapply (Scf.wp_for_bind frame (wpE (defs₀ (F := F)) 𝒱₀ (c : Thread nD τ) none) Set.univ k0_t3_loop.lb k0_t3_loop.ub k0_t3_loop.st k0_t3_ok ⟨⟩
    (body3 c v17 v52 v53 (mst m ρ c 16) (sst m ρ c 16) (mst m ρ (peer c) 16) (sst m ρ (peer c) 16)) (fun k _ => I3 m ρ c k) (fun k acc => trip3 m ρ c v17 v52 v53 k acc)) $$ HI
  iintro %acc HI
  iapply Hk
  iapply (Entails.of_eq (congrArg (I3 m ρ c) trips3)) $$ HI

/-! ## The peer's half -/

/-- The positions and credit of the receive cells from `j` on, and the counters of those before it. -/
def Rcv (j : ℕ) : sProp 𝕄 :=
  iprop(bigSep (Finset.Ico j 16) (fun k => iprop(atPos ER (gDma c (21 + k)) 0 ∅ 0 ∗ cred (tallyAt (gDma c (21 + k)) () NR)))
    ∗ bigSep (Finset.range j) (fun k => sv c (21 + k)))

theorem Rcv_take {j : ℕ} (hj : j < 16) :
    Rcv (F := F) c j ⊢ iprop((atPos ER (gDma c (21 + j)) 0 ∅ 0 ∗ cred (tallyAt (gDma c (21 + j)) () NR)) ∗ (sv c (21 + j) -∗ Rcv (F := F) c (j + 1))) := by
  unfold Rcv
  rw [bigSep_Ico_succ_bot hj, bigSep_range_succ]
  iintro ⟨⟨H, Ha⟩, Hb⟩
  isplitl [H]; · iexact H
  iintro Hv
  isplitl [Ha]; · iexact Ha
  isplitl [Hv] <;> iassumption

theorem mayWait_zero (n : ℕ) : (levAts L lv : sProp 𝕄) ⊢ MayWait (c : Thread nD τ) (.dma (dsem n)) () 0 := by
  rw [MayWait_zero]; iintro -; iempintro

/-- Before trip `k`. -/
def I4 (k : ℕ) : sProp 𝕄 :=
  iprop(recs m ρ ∗ Half m ρ c (otherB c) (Nm m ρ c (Lg m ρ (peer c))) k ∗ rB c 0 (1024 * k) (Lg m ρ (peer c)) ∗ Rcv c k ∗ (sv c (39 + k % 2) ∗ sv c (39 + (k + 1) % 2)) ∗ ow c 0)

set_option maxHeartbeats 1600000 in
theorem trip4 (v5 v8 v9 v19 a : BitVec 32) (k : Fin k0_t4_loop.trips) (acc : Unit) :
    I4 m ρ c k.val ⊢ WP c (body4 c v5 v8 v9 v19 (gm m ρ c) (iv m ρ c) a k acc) (fun _ => I4 m ρ c (k.val + 1)) := by
  have hk : k.val < 16 := trips4 ▸ k.isLt
  unfold body4 k0_t4_body I4
  rw [k0_part5_eq_skeleton]; unfold k0_part5_skel
  simp only [Prog.lift, Prog.bind_op, Prog.bind_ret, Prog.pure_eq_ret]
  iintro ⟨#Hr, Hh, Hb, Hc, ⟨Hv, Hv'⟩, HO⟩
  ihave Hc := (Rcv_take c hk) $$ Hc
  icases Hc with ⟨⟨Hat, Hcr⟩, Hc⟩
  iapply (wp_waitCell m ρ c (n := 21 + k.val) (N := NR) (O := 0) (P := recvPay m ρ c k.val) (recvSem_eq (k0_off24_eq k) _) (by omega) (by omega) crd_r
    (expect_chunk m ρ c (by omega) (by omega)) (payload_recv m ρ c hk) (mayWait_zero c _)) $$ [Hcr Hat HO]
  · isplitr; · iexact Hr
    isplitl [Hcr]; · iexact Hcr
    isplitl [Hat] <;> iassumption
  unfold recvPay
  iintro ⟨Hb₂, Hcv, HO⟩
  ihave Hc := Hc $$ Hcv
  by_cases h : k0_cond4 k = 1#1
  case' pos =>
    have h' := (cond4_iff k).mp h
    rw [dif_pos h]
    ihave Hh := (half_wait m ρ c _ _ h') $$ Hh
    icases Hh with ⟨Hf, Hh⟩
    simp only [Prog.bind_op, Prog.bind_ret]
    iapply (wp_waitF m ρ c (D := iprop(oB m ρ c (otherB c + 1024 * (k.val - 2)) (otherB c + 1024 * (k.val - 2) + 1024) ∗ lD c (k.val % 2) (Nm m ρ c (Lg m ρ (peer c))) (k.val - 2))) (O := 0)
      (wrSem_eq (off26_eq k) _) (by omega) crd_o (Hi.zero.mid)) $$ [Hf HO]
    · isplitr; · iexact Hr
      isplitl [Hf] <;> iassumption
    iintro ⟨HD, Hwv, HO⟩
    ihave Hh := Hh $$ [HD Hwv]
    · isplitl [HD] <;> iassumption
  case' neg =>
    have h' : ¬ 2 ≤ k.val := fun hh => h ((cond4_iff k).mpr hh)
    rw [dif_neg h]
    ihave Hh := (half_first m ρ c _ _ h') $$ Hh
    simp only [Prog.bind_op, Prog.bind_ret]
  all_goals
    ihave Hh := (open_rest m ρ c _ _) $$ Hh
    icases Hh with ⟨Hl, Hh⟩
    iapply (wp_fetchR c (Lg m ρ (peer c)) (k := k.val) (k0_off25_eq k) (off30_eq k) (off29_eq k)) $$ [Hb₂ Hl Hv]
    · isplitl [Hb₂]; · iexact Hb₂
      isplitl [Hl] <;> iassumption
    iintro Hf
    iapply (wp_waitF m ρ c (D := iprop(lD c (k.val % 2) (Lg m ρ (peer c)) k.val ∗ rB c (1024 * k.val) (1024 * k.val + 1024) (Lg m ρ (peer c)))) (O := 0)
      (rdSem_eq (off29_eq k) _) (by omega) crd_lb (Hi.zero.mid)) $$ [Hf HO]
    · isplitr; · iexact Hr
      isplitl [Hf] <;> iassumption
    iintro ⟨⟨Hl, Hb₂⟩, Hv, HO⟩
    iapply (wp_ldL c (Lg m ρ (peer c)) (off31_eq k)) $$ Hl; iintro Hl
    iapply (wp_ldL c (Lg m ρ (peer c)) (off31_eq k)) $$ Hl; iintro Hl
    ihave Hl := (lD_any c _ _ _) $$ Hl
    iapply (wp_stL c (Nm m ρ c (Lg m ρ (peer c))) (k := k.val) (off31_eq k) (slab_ofChunks _ _)) $$ Hl; iintro Hl
    ihave Hh := (rest_put m ρ c _ _ hk) $$ Hh
    icases Hh with ⟨Ho, Hwv, Hh⟩
    iapply (wp_storeO m ρ c (Nm m ρ c (Lg m ρ (peer c))) (k := k.val) (off32_at c k) (off30_eq k) (off29_eq k)
      (fun p q hq => by rw [add_assoc]; exact Out_other m ρ c (by omega))) $$ [Hl Ho Hwv]
    · isplitl [Hl]; · iexact Hl
      isplitl [Ho] <;> iassumption
    iintro Hf
    ihave Hh := Hh $$ Hf
    iapply (wp_done c)
    rw [show (k.val + 1 + 1) % 2 = k.val % 2 by omega]
    isplitr; · iexact Hr
    isplitl [Hh]; · iexact Hh
    isplitl [Hb Hb₂]
    · rw [mul_add_one 1024 k.val]
      iapply (rB_split c _ (mid := 1024 * k.val) (by omega) (by omega)).2
      isplitl [Hb] <;> iassumption
    isplitl [Hc]; · iexact Hc
    isplitl [Hv Hv']
    · isplitl [Hv'] <;> iassumption
    iexact HO

theorem wp_loop4 (v5 v8 v9 v19 a : BitVec 32) {β : Type} {Q : β → sProp 𝕄} {kk : Unit → Prog (TpuEff nD τ sig (Elt F) Λ₀ .tc) β} :
    I4 m ρ c 0 ⊢ iprop((I4 m ρ c 16 -∗ WP c (kk ⟨⟩) Q) -∗ WP c (Scf.Loop.for k0_t4_loop k0_t4_ok ⟨⟩ (body4 c v5 v8 v9 v19 (gm m ρ c) (iv m ρ c) a) >>= kk) Q) := by
  iintro HI Hk
  iapply (Scf.wp_for_bind frame (wpE (defs₀ (F := F)) 𝒱₀ (c : Thread nD τ) none) Set.univ k0_t4_loop.lb k0_t4_loop.ub k0_t4_loop.st k0_t4_ok ⟨⟩
    (body4 c v5 v8 v9 v19 (gm m ρ c) (iv m ρ c) a) (fun k _ => I4 m ρ c k) (fun k acc => trip4 m ρ c v5 v8 v9 v19 a k acc)) $$ HI
  iintro %acc HI
  iapply Hk
  iapply (Entails.of_eq (congrArg (I4 m ρ c) trips4)) $$ HI

/-! ## The sends awaited -/

/-- The positions and credit of the send cells from `j` on, and the counters of those before it. -/
def Sdn (j : ℕ) : sProp 𝕄 :=
  iprop(bigSep (Finset.Ico j 16) (fun k => iprop(atPos ER (gDma c (5 + k)) 0 ∅ 0 ∗ cred (tallyAt (gDma c (5 + k)) () NR)))
    ∗ bigSep (Finset.range j) (fun k => sv c (5 + k)))

theorem Sdn_take {j : ℕ} (hj : j < 16) :
    Sdn (F := F) c j ⊢ iprop((atPos ER (gDma c (5 + j)) 0 ∅ 0 ∗ cred (tallyAt (gDma c (5 + j)) () NR)) ∗ (sv c (5 + j) -∗ Sdn (F := F) c (j + 1))) := by
  unfold Sdn
  rw [bigSep_Ico_succ_bot hj, bigSep_range_succ]
  iintro ⟨⟨H, Ha⟩, Hb⟩
  isplitl [H]; · iexact H
  iintro Hv
  isplitl [Ha]; · iexact Ha
  isplitl [Hv] <;> iassumption

/-- Before trip `k`. -/
def I5 (k : ℕ) : sProp 𝕄 := iprop(recs m ρ ∗ lB c (PosShare.left fullShare) 0 (1024 * k) (Lg m ρ c) ∗ Sdn c k ∗ ow c 0)

theorem trip5 (k : Fin k0_t5_loop.trips) (acc : Unit) :
    I5 m ρ c k.val ⊢ WP c (body5 k acc) (fun _ => I5 m ρ c (k.val + 1)) := by
  have hk : k.val < 16 := trips5 ▸ k.isLt
  unfold body5 k0_t5_body I5
  simp only [Prog.lift, Prog.bind_op, Prog.bind_ret, Prog.pure_eq_ret]
  iintro ⟨#Hr, Hb, Hc, HO⟩
  ihave Hc := (Sdn_take c hk) $$ Hc
  icases Hc with ⟨⟨Hat, Hcr⟩, Hc⟩
  iapply (wp_waitCell m ρ c (n := 5 + k.val) (N := NR) (O := 0) (P := sendPay m ρ c k.val) (sendSem_eq (k0_off34_eq k) _) (by omega) (by omega) (crd_l.trans NL_eq)
    (expect_chunk m ρ c (by omega) (by omega)) (payload_send m ρ c hk) (mayWait_zero c _)) $$ [Hcr Hat HO]
  · isplitr; · iexact Hr
    isplitl [Hcr]; · iexact Hcr
    isplitl [Hat] <;> iassumption
  unfold sendPay
  iintro ⟨Hb₂, Hcv, HO⟩
  ihave Hc := Hc $$ Hcv
  iapply (wp_done c)
  isplitr; · iexact Hr
  isplitl [Hb Hb₂]
  · rw [mul_add_one 1024 k.val]
    iapply (lB_split c _ _ (mid := 1024 * k.val) (by omega) (by omega)).2
    isplitl [Hb] <;> iassumption
  isplitl [Hc] <;> iassumption

theorem wp_loop5 {β : Type} {Q : β → sProp 𝕄} {kk : Unit → Prog (TpuEff nD τ sig (Elt F) Λ₀ .tc) β} :
    I5 m ρ c 0 ⊢ iprop((I5 m ρ c 16 -∗ WP c (kk ⟨⟩) Q) -∗ WP c (Scf.Loop.for k0_t5_loop k0_t5_ok ⟨⟩ body5 >>= kk) Q) := by
  iintro HI Hk
  iapply (Scf.wp_for_bind frame (wpE (defs₀ (F := F)) 𝒱₀ (c : Thread nD τ) none) Set.univ k0_t5_loop.lb k0_t5_loop.ub k0_t5_loop.st k0_t5_ok ⟨⟩
    body5 (fun k _ => I5 m ρ c k) (fun k acc => trip5 m ρ c k acc)) $$ HI
  iintro %acc HI
  iapply Hk
  iapply (Entails.of_eq (congrArg (I5 m ρ c) trips5)) $$ HI

end Second

end Cert.KernelIdeal.Sharded

end
-- ==== Proof.KernelIdeal.Parts.lean ====
/-
# The body in parts

The exchange at the barrier, the first pass with its sends, and the pair received with the own half normalised.
-/
module

public import proofs.«01_k».proof.Proof.KernelIdeal.Second

@[expose] public section

noncomputable section

namespace Cert.KernelIdeal.Sharded

open Cert.KernelIdeal Cert.KernelIdeal.Gen Cert.Bands

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pair's buffers -/

abbrev msCol : S1024x8.Idx → ℕ := col (A := 1024) (B := 8)

theorem msCol_range (i : S1024x8.Idx) : 0 ≤ msCol i ∧ msCol i < 8 := ⟨Nat.zero_le _, (i 1).isLt⟩

section Parts
variable (c : Dev nD)

/-- The pair's send buffer, at any contents, and a column of it. -/
def msAny : sProp 𝕄 := iprop(∃ f, (c : Thread nD τ).loc cc0_scratch4 ↦{fullShare} f)
def msB (lo hi : ℕ) (f : S1024x8.Idx → F .f32) : sProp 𝕄 := (c : Thread nD τ).loc cc0_scratch4 ↦[band msCol lo hi]{fullShare} f

theorem msAny_cut : msAny (F := F) c ⊢ iprop(∃ f, msB c 0 1 f ∗ msB c 1 2 f ∗ msB c 2 8 f) := by
  unfold msAny msB
  iintro ⟨%f, H⟩
  iexists f
  ihave H := (Entails.of_eq (pts_whole (ℓ := (c : Thread nD τ).loc cc0_scratch4) (col := msCol) (q := fullShare) (f := f) msCol_range).symm) $$ H
  ihave H := (pts_split (mid := 1) (by omega) (by omega)).1 $$ H
  icases H with ⟨Ha, H⟩
  ihave H := (pts_split (mid := 2) (by omega) (by omega)).1 $$ H
  icases H with ⟨Hb, H⟩
  isplitl [Ha]; · iexact Ha
  isplitl [Hb] <;> iassumption

theorem msP_join (f : S1024x8.Idx → F .f32) :
    iprop(msB c 0 1 (msT (mst m ρ c 16) (sst m ρ c 16) f) ∗ msB c 1 2 (msT (mst m ρ c 16) (sst m ρ c 16) f) ∗ msB c 2 8 f) ⊢ msP m ρ c := by
  unfold msB msP
  iintro ⟨Ha, Hb, H⟩
  iexists f
  iapply (Entails.of_eq (pts_whole (ℓ := (c : Thread nD τ).loc cc0_scratch4) (col := msCol) (q := fullShare) (f := msT (mst m ρ c 16) (sst m ρ c 16) f) msCol_range))
  iapply (pts_split (mid := 1) (by omega) (by omega)).2
  isplitl [Ha]; · iexact Ha
  iapply (pts_split (mid := 2) (by omega) (by omega)).2
  isplitl [Hb]; · iexact Hb
  iapply (Entails.of_eq (pointsTo_congr fun i hi => ?_)) $$ H
  have h2 : 2 ≤ (i 1).val := (mem_band.mp hi).1
  show f i = msT _ _ f i
  unfold msT; rw [if_neg (by omega), if_neg (by omega)]

/-- The accesses to the two columns of the pair's send buffer. -/
theorem wp_ldMs0 {α : Type} {Q : α → sProp 𝕄} {f : S1024x8.Idx → F .f32} {inb} {hl : msM.view.LoadsAt (msR ![0, 0] inb).toLoadRect}
    {kk : Vec F S1024x1 .f32 → Prog (TpuEff nD τ sig (Elt F) Λ₀ .tc) α} :
    msB c 0 1 f ⊢ iprop((∀ v, msB c 0 1 f -∗ WP c (kk v) Q) -∗ WP c (.op (.load msM (msR ![0, 0] inb).toLoadRect hl) kk) Q) := by
  unfold msB
  iintro H Hk
  iapply (wp_ld c (M := msM) (r := msR ![0, 0] inb) (S := band col 0 1) (f := f) (by rw [ms_set0]) rfl) $$ H
  iapply Hk
theorem wp_stMs0 {α : Type} {Q : α → sProp 𝕄} {M S w : Vec F S1024x1 .f32} {f : S1024x8.Idx → F .f32} {inb} {hx : (msM.access (msR ![0, 0] inb)).Stores Finset.univ}
    {hm : (Finset.univ : Finset (msR ![0, 0] inb).shape.Idx) = Finset.univ ∨ ∀ a, (msR ![0, 0] inb).stride a = 1}
    {kk : PUnit → Prog (TpuEff nD τ sig (Elt F) Λ₀ .tc) α} (hw : M = w) :
    msB c 0 1 f ⊢ iprop((msB c 0 1 (msT M S f) -∗ WP c (kk ⟨⟩) Q) -∗ WP c (.op (.store msM (msR ![0, 0] inb) w Finset.univ hx hm) kk) Q) := by
  iintro H
  iapply (wp_st c (M := msM) (r := msR ![0, 0] inb) (w := w) (S := band col 0 1) (T := msT M S f) (ms_set0 _) ((ms_read0 _ _ _ _).trans hw))
  iexists f; unfold msB; iexact H
theorem wp_ldMs1 {α : Type} {Q : α → sProp 𝕄} {f : S1024x8.Idx → F .f32} {inb} {hl : msM.view.LoadsAt (msR ![0, 1] inb).toLoadRect}
    {kk : Vec F S1024x1 .f32 → Prog (TpuEff nD τ sig (Elt F) Λ₀ .tc) α} :
    msB c 1 2 f ⊢ iprop((∀ v, msB c 1 2 f -∗ WP c (kk v) Q) -∗ WP c (.op (.load msM (msR ![0, 1] inb).toLoadRect hl) kk) Q) := by
  unfold msB
  iintro H Hk
  iapply (wp_ld c (M := msM) (r := msR ![0, 1] inb) (S := band col 1 2) (f := f) (by rw [ms_set1]) rfl) $$ H
  iapply Hk
theorem wp_stMs1 {α : Type} {Q : α → sProp 𝕄} {M S w : Vec F S1024x1 .f32} {f : S1024x8.Idx → F .f32} {inb} {hx : (msM.access (msR ![0, 1] inb)).Stores Finset.univ}
    {hm : (Finset.univ : Finset (msR ![0, 1] inb).shape.Idx) = Finset.univ ∨ ∀ a, (msR ![0, 1] inb).stride a = 1}
    {kk : PUnit → Prog (TpuEff nD τ sig (Elt F) Λ₀ .tc) α} (hw : S = w) :
    msB c 1 2 f ⊢ iprop((msB c 1 2 (msT M S f) -∗ WP c (kk ⟨⟩) Q) -∗ WP c (.op (.store msM (msR ![0, 1] inb) w Finset.univ hx hm) kk) Q) := by
  iintro H
  iapply (wp_st c (M := msM) (r := msR ![0, 1] inb) (w := w) (S := band col 1 2) (T := msT M S f) (ms_set1 _) ((ms_read1 _ _ _ _).trans hw))
  iexists f; unfold msB; iexact H

/-- The pair's receive buffer holding a maximum and a sum, and the loads of its two columns. -/
def mrB (M S : Vec F S1024x1 .f32) (f : S1024x8.Idx → F .f32) : sProp 𝕄 := (c : Thread nD τ).loc cc0_scratch5 ↦{fullShare} msT M S f

theorem wp_ldMr0 {α : Type} {Q : α → sProp 𝕄} {M S : Vec F S1024x1 .f32} {f : S1024x8.Idx → F .f32} {inb} {hl : mrM.view.LoadsAt (msR ![0, 0] inb).toLoadRect}
    {kk : Vec F S1024x1 .f32 → Prog (TpuEff nD τ sig (Elt F) Λ₀ .tc) α} :
    mrB c M S f ⊢ iprop((mrB c M S f -∗ WP c (kk M) Q) -∗ WP c (.op (.load mrM (msR ![0, 0] inb).toLoadRect hl) kk) Q) :=
  wp_ld c (M := mrM) (r := msR ![0, 0] inb) (S := Finset.univ) (f := msT M S f) (Finset.subset_univ _) (mr_read0 M S f inb)
theorem wp_ldMr1 {α : Type} {Q : α → sProp 𝕄} {M S : Vec F S1024x1 .f32} {f : S1024x8.Idx → F .f32} {inb} {hl : mrM.view.LoadsAt (msR ![0, 1] inb).toLoadRect}
    {kk : Vec F S1024x1 .f32 → Prog (TpuEff nD τ sig (Elt F) Λ₀ .tc) α} :
    mrB c M S f ⊢ iprop((mrB c M S f -∗ WP c (kk S) Q) -∗ WP c (.op (.load mrM (msR ![0, 1] inb).toLoadRect hl) kk) Q) :=
  wp_ld c (M := mrM) (r := msR ![0, 1] inb) (S := Finset.univ) (f := msT M S f) (Finset.subset_univ _) (mr_read1 M S f inb)

/-! ## The parts of the body -/

abbrev part6 := k0_part6 (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13
abbrev part7 (d0 : Dev nD) (v5 v8 v9 : BitVec 32) := k0_part7 (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13 d0 v5 v8 v9
abbrev part8 (d0 : Dev nD) (v17 v52 v53 : BitVec 32) := k0_part8 (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13 d0 v17 v52 v53

/-- The barrier exchange: the landing buffers given away, the peer's got; the running maximum and sum set. -/
theorem wp_part6 {β : Type} {Q : β → sProp 𝕄} {kk : _ → Prog (TpuEff nD τ sig (Elt F) Λ₀ .tc) β} :
    iprop(recs m ρ ∗ (rAny c 0 16384 ∗ mrAny c) ∗ dutyTok ER (gBar (peer c)) 0 () ∗ cred (tallyAt (gBar c) () 1) ∗ atPos ER (gBar c) 0 ∅ 0
        ∗ (∃ v, mP c v) ∗ (∃ v, sP c v) ∗ ow c (O₀ c))
      ⊢ iprop((∀ (v5 v8 v9 v17 v19 : BitVec 32), iprop((rAny (peer c) 0 16384 ∗ mrAny (peer c)) ∗ semVal (gBar c) 0 ∗ mP c (mst m ρ c 0) ∗ sP c (sst m ρ c 0) ∗ ow c (OM c 0))
              -∗ WP c (kk ⟨c, v5, v8, v9, v17, v19⟩) Q)
          -∗ WP c (part6 >>= kk) Q) := by
  unfold part6
  rw [k0_part6_eq_skeleton]; unfold k0_part6_skel ow
  simp only [semSignalWord, semWaitWord, Prog.lift, Prog.bind_op, Prog.bind_ret, Prog.pure_eq_ret, wp_deviceId]
  iintro ⟨#Hr, Hland, Ht, Hc, Hat, ⟨%v, Hm⟩, ⟨%v', Hs⟩, ⟨%W, HO⟩⟩ Hk
  simp only [dev1_eq c]
  ihave H₁ := (recs_bar m ρ (peer c)) $$ Hr
  ihave H₂ := (recs_bar m ρ c) $$ Hr
  unfold Cell
  icases H₁ with ⟨⟨%κ₁, #HI₁⟩, #HR₁⟩
  icases H₂ with ⟨⟨%κ₂, #HI₂⟩, #HR₂⟩
  iapply (Rounds.wp_signal 𝒱₀ ER (Rd m ρ) (c : Thread nD τ) none (dst := (peer c : Thread nD τ)) (κ := κ₁)
      (d := ()) (by rw [duties_bar]; exact Finset.mem_singleton_self _) ((amount_bar m ρ (peer c)).trans (by decide)) () (OM c 0) rfl)
    $$ [HO Ht Hland]
  · isplitr; · iexact HI₁
    isplitl [HO]; · iexact HO
    isplitl [Ht]; · iexact Ht
    isplitl [Hland]
    · rw [payload_bar]; unfold barPay; rw [peer_peer]; iexact Hland
    iexact HR₁
  iintro HO
  iapply (Rounds.wp_wait_rest_token 𝒱₀ ER (Rd m ρ) (c : Thread nD τ) none (κ := κ₂)
      (wpE_semWait_eq 𝒱₀ (c : Thread nD τ) none Set.univ) (Set.mem_univ _) () (O := OM c 0) (W := W) (R := 0) (m := 0) (T := ∅)
      (by rw [expect_bar]; decide)) $$ [Hc HO Hat]
  · isplitr; · iexact HI₂
    isplitl [Hc]; · iexact Hc
    isplitl [HO]; · iexact HO
    isplitr; · iapply (mayWait_bar c (Hi.OM c 0)); iapply (recs_lev m ρ); iexact Hr
    iexact Hat
  iintro ⟨HO, Hat, -, Hpay⟩
  ihave Hp := (Entails.of_eq (rest_bar m ρ c)) $$ Hpay
  unfold barPay
  imod (Rounds.cell_close ER (Rd m ρ) (Set.mem_univ κ₂) (fun h => h) (R := 0 + 1) (duties_later m ρ (gBar c))) $$ [Hat] with Hz
  · isplitr; · iexact HI₂
    iexact Hat
  iapply (wp_ldM c) $$ Hm; iintro Hm
  iapply (wp_stM c) $$ Hm; iintro Hm
  iapply (wp_ldS c) $$ Hs; iintro Hs
  iapply (wp_stS c) $$ Hs; iintro Hs
  iapply Hk
  isplitl [Hp]; · iexact Hp
  isplitl [Hz]; · iexact Hz
  isplitl [Hm]; · iexact Hm
  isplitl [Hs]; · iexact Hs
  iexists _; iexact HO

set_option maxHeartbeats 1600000 in
/-- The chunks computed, stored and sent; the pair sent, and its send awaited. -/
theorem wp_part7 (v5 v8 v9 : BitVec 32) {β : Type} {Q : β → sProp 𝕄} {kk : _ → Prog (TpuEff nD τ sig (Elt F) Λ₀ .tc) β} :
    iprop(recs m ρ ∗ xP m ρ c ∗ mP c (mst m ρ c 0) ∗ sP c (sst m ρ c 0) ∗ wB m c 0 16384
        ∗ ((wS c 0 ∗ wS c 1) ∗ sv c 1 ∗ sv c 2) ∗ ((lS c 0 ∗ lS c 1) ∗ sv c 3 ∗ sv c 4) ∗ lAny c 0 16384
        ∗ (rAny (peer c) 0 16384 ∗ mrAny (peer c)) ∗ S1 c 0 ∗ (dutyTok ER (gDma c 37) 0 () ∗ dutyTok ER (gDma (peer c) 38) 0 ())
        ∗ msAny c ∗ atPos ER (gDma c 37) 0 ∅ 0 ∗ ow c (OM c 0))
      ⊢ iprop((∀ r, iprop(xP m ρ c ∗ mP c (mst m ρ c 16) ∗ sP c (sst m ρ c 16) ∗ wB m c 0 16384
              ∗ ((wS c 0 ∗ wS c 1) ∗ sv c 1 ∗ sv c 2) ∗ ((lS c 0 ∗ lS c 1) ∗ sv c 3 ∗ sv c 4)
              ∗ lB c (PosShare.right fullShare) 0 16384 (Lg m ρ c) ∗ S2 c 16 ∗ msAny c ∗ sv c 37 ∗ ow c 0)
            -∗ WP c (kk r) Q)
          -∗ WP c (part7 c v5 v8 v9 >>= kk) Q) := by
  unfold part7
  rw [k0_part7_eq_skeleton]; unfold k0_part7_skel
  simp only [Prog.lift, Prog.bind_op, Prog.bind_ret, Prog.pure_eq_ret, bind_assoc]
  iintro ⟨#Hr, Hx, Hm, Hs, Hw, ⟨⟨Hw₀, Hw₁⟩, Hv₁, Hv₂⟩, ⟨⟨Hl₀, Hl₁⟩, Hv₃, Hv₄⟩, Hl, ⟨Hra, Hmr⟩, HS, ⟨Ht, Ht'⟩, Hms, Hat, HO⟩ Hk
  ihave Hw := (wB_split m c (mid := 1024 * 0 + 1024) (by omega) (by omega)).1 $$ Hw
  icases Hw with ⟨Hwa, Hwb⟩
  iapply (wp_fetchW m c (k := 0) (b := 0) rfl rfl rfl) $$ [Hwa Hw₀ Hv₁]
  · isplitl [Hwa]; · iexact Hwa
    isplitl [Hw₀] <;> iassumption
  iintro Hf
  iapply (wp_loop1 m ρ c v5 v8 v9) $$ [Hx Hm Hs Hwb Hf Hw₁ Hv₂ Hl₀ Hl₁ Hv₃ Hv₄ Hl Hra HS HO]
  · unfold I1
    isplitr; · iexact Hr
    isplitl [Hx]; · iexact Hx
    isplitl [Hm]; · iexact Hm
    isplitl [Hs]; · iexact Hs
    isplitl [Hwb Hf Hw₁ Hv₂]
    · isplitr; · rw [wB_none m c (by omega)]; iempintro
      isplitl [Hwb]; · iexact Hwb
      isplitl [Hf]; · unfold wHead; rw [if_pos (by omega)]; iexact Hf
      isplitl [Hw₁] <;> iassumption
    isplitl [Hl₀ Hl₁ Hv₃ Hv₄]
    · isplitl [Hl₀]; · iexact Hl₀
      isplitl [Hl₁]; · iexact Hl₁
      isplitl [Hv₃] <;> iassumption
    isplitl [Hl]
    · isplitr; · rw [lB_none c _ _ (by omega)]; iempintro
      iexact Hl
    isplitl [Hra HS]
    · unfold Snd
      isplitr; · rw [lB_none c _ _ (by omega)]; iempintro
      isplitl [Hra]; · iexact Hra
      isplitl [HS]; · iexact HS
      unfold S2; rw [show min 0 3 = 0 from rfl, Finset.range_zero, bigSep_empty]; iempintro
    iexact HO
  unfold I1
  iintro ⟨-, Hx, Hm, Hs, ⟨Hw, -, Hf, Hw₁, Hv₂⟩, ⟨Hl₀, Hl₁, Hv₃, Hv₄⟩, ⟨Hb, -⟩, HS, HO⟩
  ihave Hf := (Entails.of_eq (show wHead m c 16 = iprop(wS c 0 ∗ sv c 1) from if_neg (by omega))) $$ Hf
  icases Hf with ⟨Hw₀, Hv₁⟩
  ihave Hms := (msAny_cut c) $$ Hms
  icases Hms with ⟨%f, Ha, Hb₁, Hb₂⟩
  iapply (wp_ldM c) $$ Hm; iintro Hm
  iapply (wp_ldMs0 c) $$ Ha; iintro %v Ha
  iapply (wp_stMs0 c (M := mst m ρ c 16) (S := sst m ρ c 16) (shapeCast_self _ _).symm) $$ Ha; iintro Ha
  iapply (wp_ldS c) $$ Hs; iintro Hs
  iapply (wp_ldMs1 c) $$ Hb₁; iintro %v' Hb₁
  iapply (wp_stMs1 c (M := mst m ρ c 16) (S := sst m ρ c 16) (shapeCast_self _ _).symm) $$ Hb₁; iintro Hb₁
  iapply (wp_sendPair m ρ c (dev3_eq c) (OR c 3) rfl) $$ [Ha Hb₁ Hb₂ Hmr HO Ht Ht']
  · isplitr; · iexact Hr
    isplitl [Ha Hb₁ Hb₂]
    · iapply (msP_join m ρ c f)
      isplitl [Ha]; · iexact Ha
      isplitl [Hb₁] <;> iassumption
    isplitl [Hmr]; · iexact Hmr
    isplitl [HO]; · iexact HO
    isplitl [Ht] <;> iassumption
  iintro ⟨Hc, HO⟩
  iapply (wp_loop2 m ρ c v5 v8 v9) $$ [HS HO]
  · unfold I2
    isplitr; · iexact Hr
    isplitl [HS]; · iexact HS
    iexact HO
  unfold I2
  iintro ⟨-, HS, HO⟩
  rw [show 13 + 3 = 16 from rfl, OR_end]
  iapply (wp_waitCell m ρ c (n := 37) (N := NM) (O := 0) (P := msP m ρ c) rfl (by omega) (by omega) NM_eq
    (expect_pair m ρ c (by omega) (by omega)) (payload_ms m ρ c) (mayWait_zero c _)) $$ [Hc Hat HO]
  · isplitr; · iexact Hr
    isplitl [Hc]; · iexact Hc
    isplitl [Hat] <;> iassumption
  iintro ⟨Hms, Hv, HO⟩
  iapply Hk
  isplitl [Hx]; · iexact Hx
  isplitl [Hm]; · iexact Hm
  isplitl [Hs]; · iexact Hs
  isplitl [Hw]; · iexact Hw
  isplitl [Hw₀ Hw₁ Hv₁ Hv₂]
  · isplitl [Hw₀ Hw₁]
    · isplitl [Hw₀] <;> iassumption
    isplitl [Hv₁] <;> iassumption
  isplitl [Hl₀ Hl₁ Hv₃ Hv₄]
  · isplitl [Hl₀ Hl₁]
    · isplitl [Hl₀] <;> iassumption
    isplitl [Hv₃] <;> iassumption
  isplitl [Hb]; · iexact Hb
  isplitl [HS]
  · unfold Snd
    icases HS with ⟨-, -, -, HS⟩
    iexact HS
  isplitl [Hms]
  · unfold msP msAny
    icases Hms with ⟨%g, Hms⟩
    iexists _; iexact Hms
  isplitl [Hv] <;> iassumption

set_option maxHeartbeats 1600000 in
/-- The pair received, and the own half normalised. -/
theorem wp_part8 (v17 v52 v53 : BitVec 32) {β : Type} {Q : β → sProp 𝕄} {kk : _ → Prog (TpuEff nD τ sig (Elt F) Λ₀ .tc) β} :
    iprop(recs m ρ ∗ cred (tallyAt (gDma c 38) () NM) ∗ atPos ER (gDma c 38) 0 ∅ 0 ∗ mP c (mst m ρ c 16) ∗ sP c (sst m ρ c 16)
        ∗ oAny c (ownB c) (ownB c + 16384) ∗ ((lS c 0 ∗ lS c 1) ∗ sv c 41 ∗ sv c 42) ∗ (sv c 39 ∗ sv c 40)
        ∗ lB c (PosShare.right fullShare) 0 16384 (Lg m ρ c) ∗ ow c 0)
      ⊢ iprop((∀ a, iprop(mrAny c ∗ sv c 38 ∗ mP c (mst m ρ c 16) ∗ sP c (sst m ρ c 16)
              ∗ oB m ρ c (ownB c) (ownB c + 16384) ∗ ((lS c 0 ∗ lS c 1) ∗ sv c 41 ∗ sv c 42) ∗ (sv c 39 ∗ sv c 40)
              ∗ lB c (PosShare.right fullShare) 0 16384 (Lg m ρ c) ∗ ow c 0)
            -∗ WP c (kk ⟨gm m ρ c, iv m ρ c, a⟩) Q)
          -∗ WP c (part8 c v17 v52 v53 >>= kk) Q) := by
  unfold part8
  rw [k0_part8_eq_skeleton]; unfold k0_part8_skel
  simp only [Prog.lift, Prog.bind_op, Prog.bind_ret, Prog.pure_eq_ret, bind_assoc]
  iintro ⟨#Hr, Hc, Hat, Hm, Hs, Ho, ⟨Hl, Hv₁, Hv₂⟩, Hrd, Hb, HO⟩ Hk
  iapply (wp_waitCell m ρ c (n := 38) (N := NM) (O := 0) (P := mrP m ρ c) rfl (by omega) (by omega) rfl
    (expect_pair m ρ c (by omega) (by omega)) (payload_mr m ρ c) (mayWait_zero c _)) $$ [Hc Hat HO]
  · isplitr; · iexact Hr
    isplitl [Hc]; · iexact Hc
    isplitl [Hat] <;> iassumption
  unfold mrP
  iintro ⟨⟨%f, Hp⟩, Hv, HO⟩
  iapply (wp_ldM c) $$ Hm; iintro Hm
  iapply (wp_ldS c) $$ Hs; iintro Hs
  ihave Hp := (Entails.of_eq (show ((c : Thread nD τ).loc cc0_scratch5 ↦{fullShare} msT (mst m ρ (peer c) 16) (sst m ρ (peer c) 16) f : sProp 𝕄) = mrB c (mst m ρ (peer c) 16) (sst m ρ (peer c) 16) f from rfl)) $$ Hp
  iapply (wp_ldMr0 c) $$ Hp; iintro Hp
  iapply (wp_ldMr1 c) $$ Hp; iintro Hp
  iapply (wp_loop3 m ρ c v17 v52 v53) $$ [Ho Hl Hv₁ Hv₂ Hrd Hb HO]
  · unfold I3
    isplitr; · iexact Hr
    isplitl [Ho Hl Hv₁ Hv₂]
    · iapply (half_zero m ρ c _ _)
      isplitl [Ho]; · iexact Ho
      isplitl [Hl]; · iexact Hl
      isplitl [Hv₁] <;> iassumption
    isplitl [Hb]; · iexact Hb
    isplitl [Hrd] <;> iassumption
  unfold I3
  iintro ⟨-, Hh, Hb, Hrd, HO⟩
  ihave Hh := (half_last m ρ c _ _) $$ Hh
  icases Hh with ⟨Hf₀, Hf₁, Ho⟩
  iapply (wp_waitF m ρ c (n := 41) (D := iprop(oB m ρ c (ownB c + 14336) (ownB c + 15360) ∗ lD c 0 (Nm m ρ c (Lg m ρ c)) 14)) (O := 0)
      (wrSem_eq (b := 0) rfl _) (by omega) crd_o (Hi.zero.mid)) $$ [Hf₀ HO]
  · isplitr; · iexact Hr
    isplitl [Hf₀] <;> iassumption
  iintro ⟨⟨Ho₁, Hl₀⟩, Hv₁, HO⟩
  iapply (wp_waitF m ρ c (n := 42) (D := iprop(oB m ρ c (ownB c + 15360) (ownB c + 16384) ∗ lD c 1 (Nm m ρ c (Lg m ρ c)) 15)) (O := 0)
      (wrSem_eq (b := 1) rfl _) (by omega) crd_o (Hi.zero.mid)) $$ [Hf₁ HO]
  · isplitr; · iexact Hr
    isplitl [Hf₁] <;> iassumption
  iintro ⟨⟨Ho₂, Hl₁⟩, Hv₂, HO⟩
  unfold gm iv
  iapply Hk
  isplitl [Hp]
  · unfold mrAny mrB; iexists _; iexact Hp
  isplitl [Hv]; · iexact Hv
  isplitl [Hm]; · iexact Hm
  isplitl [Hs]; · iexact Hs
  isplitl [Ho Ho₁ Ho₂]
  · iapply (oB_split m ρ c (mid := ownB c + 14336) (by omega) (by omega)).2
    isplitl [Ho]; · iexact Ho
    iapply (oB_split m ρ c (mid := ownB c + 15360) (by omega) (by omega)).2
    isplitl [Ho₁] <;> iassumption
  isplitl [Hl₀ Hl₁ Hv₁ Hv₂]
  · isplitl [Hl₀ Hl₁]
    · isplitl [Hl₀]; · iapply (lD_any c _ _ _) $$ Hl₀
      iapply (lD_any c _ _ _) $$ Hl₁
    isplitl [Hv₁] <;> iassumption
  isplitl [Hrd]; · iexact Hrd
  isplitl [Hb] <;> iassumption

end Parts

end Cert.KernelIdeal.Sharded

end
-- ==== Proof.KernelIdeal.Body.lean ====
/-
# The whole body

Whole buffers cut into the pieces the parts work on, the parts put together, and the result as the obligation the launch
asks for.
-/
module

public import proofs.«01_k».proof.Proof.KernelIdeal.Parts
public import proofs.«01_k».proof.Proof.Gen.KernelIdeal.Points

@[expose] public section

noncomputable section

namespace Cert.KernelIdeal.Sharded

open Cert.KernelIdeal Cert.KernelIdeal.Gen Cert.Bands

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Whole
variable (c : Dev nD)

/-! ## Whole buffers in pieces -/

theorem wB_whole : wB m c 0 16384 = ((c : Thread nD τ).loc main_arg1 ↦{fullShare} m ((c : Thread nD τ).loc main_arg1) : sProp 𝕄) := by
  unfold wB
  rw [mat_Wn]
  exact pts_whole (ℓ := (c : Thread nD τ).loc main_arg1) fun i => ⟨Nat.zero_le _, (i 1).isLt⟩
theorem oB_whole : oB m ρ c 0 32768 = ((c : Thread nD τ).loc main_v1_0 ↦{fullShare} mat (Out m ρ c) : sProp 𝕄) :=
  pts_whole (ℓ := (c : Thread nD τ).loc main_v1_0) fun i => ⟨Nat.zero_le _, (i 1).isLt⟩
theorem oAny_whole {f} : ((c : Thread nD τ).loc main_v1_0 ↦{fullShare} f : sProp 𝕄) ⊢ oAny (F := F) c 0 32768 := by
  iintro H; unfold oAny; iexists f
  iapply (Entails.of_eq (pts_whole (ℓ := (c : Thread nD τ).loc main_v1_0) (col := col (A := 1024) (B := 32768)) (f := f) fun i => ⟨Nat.zero_le _, (i 1).isLt⟩).symm) $$ H
theorem lAny_whole {f} : ((c : Thread nD τ).loc main_v1_1 ↦{fullShare} f : sProp 𝕄) ⊢ lAny (F := F) c 0 16384 := by
  iintro H; unfold lAny; iexists f
  iapply (Entails.of_eq (pts_whole (ℓ := (c : Thread nD τ).loc main_v1_1) (col := col (A := 1024) (B := 16384)) (f := f) fun i => ⟨Nat.zero_le _, (i 1).isLt⟩).symm) $$ H
theorem rAny_whole {f} : ((c : Thread nD τ).loc main_v1_2 ↦{fullShare} f : sProp 𝕄) ⊢ rAny (F := F) c 0 16384 := by
  iintro H; unfold rAny; iexists f
  iapply (Entails.of_eq (pts_whole (ℓ := (c : Thread nD τ).loc main_v1_2) (col := col (A := 1024) (B := 16384)) (f := f) fun i => ⟨Nat.zero_le _, (i 1).isLt⟩).symm) $$ H
theorem lB_whole {G : ℕ → ℕ → F .f32} : lB c fullShare 0 16384 G ⊢ (iprop(∃ f, (c : Thread nD τ).loc main_v1_1 ↦{fullShare} f) : sProp 𝕄) := by
  unfold lB; iintro H; iexists mat G
  iapply (Entails.of_eq (pts_whole (ℓ := (c : Thread nD τ).loc main_v1_1) (lo := 0) (hi := 16384) (q := fullShare) (col := col (A := 1024) (B := 16384)) (f := mat G) fun i => ⟨Nat.zero_le _, (i 1).isLt⟩)) $$ H
theorem rB_whole {G : ℕ → ℕ → F .f32} : rB c 0 16384 G ⊢ (iprop(∃ f, (c : Thread nD τ).loc main_v1_2 ↦{fullShare} f) : sProp 𝕄) := by
  unfold rB; iintro H; iexists mat G
  iapply (Entails.of_eq (pts_whole (ℓ := (c : Thread nD τ).loc main_v1_2) (lo := 0) (hi := 16384) (q := fullShare) (col := col (A := 1024) (B := 16384)) (f := mat G) fun i => ⟨Nat.zero_le _, (i 1).isLt⟩)) $$ H

/-- The result in its two halves. -/
theorem oAny_halves : oAny (F := F) c 0 32768 ⊢ iprop(oAny c (ownB c) (ownB c + 16384) ∗ oAny c (otherB c) (otherB c + 16384)) := by
  have hc := half_lt c
  iintro H
  ihave H := (oAny_split c (mid := 16384) (by omega) (by omega)) $$ H
  icases H with ⟨Ha, Hb⟩
  rcases (by omega : c.val / 4 = 0 ∨ c.val / 4 = 1) with h | h
  · rw [show ownB c = 0 by unfold ownB; omega, show otherB c = 16384 by unfold otherB; omega]
    isplitl [Ha] <;> iassumption
  · rw [show ownB c = 16384 by unfold ownB; omega, show otherB c = 0 by unfold otherB; omega]
    isplitl [Hb] <;> iassumption
theorem oB_halves : iprop(oB m ρ c (ownB c) (ownB c + 16384) ∗ oB m ρ c (otherB c) (otherB c + 16384)) ⊢ oB m ρ c 0 32768 := by
  have hc := half_lt c
  iintro ⟨Ha, Hb⟩
  iapply (oB_split m ρ c (mid := 16384) (by omega) (by omega)).2
  rcases (by omega : c.val / 4 = 0 ∨ c.val / 4 = 1) with h | h
  · rw [show ownB c = 0 by unfold ownB; omega, show otherB c = 16384 by unfold otherB; omega]
    isplitl [Ha] <;> iassumption
  · rw [show ownB c = 16384 by unfold ownB; omega, show otherB c = 0 by unfold otherB; omega]
    isplitl [Hb] <;> iassumption

/-- A double buffer in its two slots. -/
theorem wS_cut : iprop(∃ f, (c : Thread nD τ).loc cc0_scratch0 ↦{fullShare} f) ⊢ (iprop(wS (F := F) c 0 ∗ wS c 1) : sProp 𝕄) := by
  unfold wS
  iintro ⟨%f, H⟩
  ihave H := (Entails.of_eq (pts_whole (ℓ := (c : Thread nD τ).loc cc0_scratch0) (lo := 0) (hi := 2) (col := slot (A := 2) (B := 2048) (D := 1024)) (f := f) fun i => ⟨Nat.zero_le _, (i 0).isLt⟩).symm) $$ H
  ihave H := (pts_split (mid := 1) (by omega) (by omega)).1 $$ H
  icases H with ⟨Ha, Hb⟩
  isplitl [Ha]
  · iexists f; iexact Ha
  iexists f; iexact Hb
theorem wS_join : (iprop(wS (F := F) c 0 ∗ wS c 1) : sProp 𝕄) ⊢ iprop(∃ f, (c : Thread nD τ).loc cc0_scratch0 ↦{fullShare} f) := by
  unfold wS
  iintro ⟨⟨%f, Ha⟩, ⟨%g, Hb⟩⟩
  ihave H := (pts_join (ℓ := (c : Thread nD τ).loc cc0_scratch0) (lo := 0) (mid := 1) (hi := 2) (q := fullShare) (f := f) (g := g) (col := slot (A := 2) (B := 2048) (D := 1024)) (by omega) (by omega)) $$ [Ha Hb]
  · isplitl [Ha] <;> iassumption
  icases H with ⟨%k, H⟩
  iexists k
  iapply (Entails.of_eq (pts_whole (ℓ := (c : Thread nD τ).loc cc0_scratch0) (lo := 0) (hi := 2) (col := slot (A := 2) (B := 2048) (D := 1024)) (f := k) fun i => ⟨Nat.zero_le _, (i 0).isLt⟩)) $$ H
theorem lS_cut : iprop(∃ f, (c : Thread nD τ).loc cc0_scratch1 ↦{fullShare} f) ⊢ (iprop(lS (F := F) c 0 ∗ lS c 1) : sProp 𝕄) := by
  unfold lS
  iintro ⟨%f, H⟩
  ihave H := (Entails.of_eq (pts_whole (ℓ := (c : Thread nD τ).loc cc0_scratch1) (lo := 0) (hi := 2) (col := slot (A := 2) (B := 1024) (D := 1024)) (f := f) fun i => ⟨Nat.zero_le _, (i 0).isLt⟩).symm) $$ H
  ihave H := (pts_split (mid := 1) (by omega) (by omega)).1 $$ H
  icases H with ⟨Ha, Hb⟩
  isplitl [Ha]
  · iexists f; iexact Ha
  iexists f; iexact Hb
theorem lS_join : (iprop(lS (F := F) c 0 ∗ lS c 1) : sProp 𝕄) ⊢ iprop(∃ f, (c : Thread nD τ).loc cc0_scratch1 ↦{fullShare} f) := by
  unfold lS
  iintro ⟨⟨%f, Ha⟩, ⟨%g, Hb⟩⟩
  ihave H := (pts_join (ℓ := (c : Thread nD τ).loc cc0_scratch1) (lo := 0) (mid := 1) (hi := 2) (q := fullShare) (f := f) (g := g) (col := slot (A := 2) (B := 1024) (D := 1024)) (by omega) (by omega)) $$ [Ha Hb]
  · isplitl [Ha] <;> iassumption
  icases H with ⟨%k, H⟩
  iexists k
  iapply (Entails.of_eq (pts_whole (ℓ := (c : Thread nD τ).loc cc0_scratch1) (lo := 0) (hi := 2) (col := slot (A := 2) (B := 1024) (D := 1024)) (f := k) fun i => ⟨Nat.zero_le _, (i 0).isLt⟩)) $$ H

/-! ## What a device starts from and what it ends with -/

/-- One of each of a device's cells: 16 sends, 16 receives, the pair's two, the barrier. -/
def Fam (Ψ : ℕ → sProp 𝕄) : sProp 𝕄 :=
  iprop(bigSep (Finset.range 16) Ψ ∗ bigSep (Finset.range 16) (fun k => Ψ (16 + k)) ∗ Ψ 32 ∗ Ψ 33 ∗ Ψ 34)

/-- The positions at round 0 of the device's cells. -/
def Pos : sProp 𝕄 :=
  iprop(bigSep (Finset.range 16) (fun k => atPos ER (gDma c (5 + k)) 0 ∅ 0) ∗ bigSep (Finset.range 16) (fun k => atPos ER (gDma c (21 + k)) 0 ∅ 0)
    ∗ atPos ER (gDma c 37) 0 ∅ 0 ∗ atPos ER (gDma c 38) 0 ∅ 0 ∗ atPos ER (gBar c) 0 ∅ 0)
/-- The duties the device pays: its send cells', and its peer's receive and barrier cells'. -/
def Tok : sProp 𝕄 :=
  iprop(bigSep (Finset.range 16) (fun k => dutyTok ER (gDma c (5 + k)) 0 ()) ∗ bigSep (Finset.range 16) (fun k => dutyTok ER (gDma (peer c) (21 + k)) 0 ())
    ∗ dutyTok ER (gDma c 37) 0 () ∗ dutyTok ER (gDma (peer c) 38) 0 () ∗ dutyTok ER (gBar (peer c)) 0 ())
/-- The credit its receive and barrier cells will be paid. -/
def Crd : sProp 𝕄 :=
  iprop(bigSep (Finset.range 16) (fun k => cred (tallyAt (gDma c (21 + k)) () NR)) ∗ cred (tallyAt (gDma c 38) () NM) ∗ cred (tallyAt (gBar c) () 1))

def start : sProp 𝕄 := iprop(recs m ρ ∗ Pos c ∗ Tok c ∗ Crd c)

/-- The semaphores of the local copies, at zero. -/
def loc : sProp 𝕄 := iprop((sv c 1 ∗ sv c 2) ∗ (sv c 3 ∗ sv c 4) ∗ (sv c 39 ∗ sv c 40) ∗ (sv c 41 ∗ sv c 42))
/-- The scratch buffers, at any contents. -/
def scr : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f)
    ∗ (∃ f, (c : Thread nD τ).loc cc0_scratch4 ↦{fullShare} f) ∗ (∃ f, (c : Thread nD τ).loc cc0_scratch5 ↦{fullShare} f))
/-- Every semaphore of the kernel at zero. -/
def sems : sProp 𝕄 :=
  iprop(loc (F := F) c ∗ bigSep (Finset.range 16) (fun k => sv c (5 + k)) ∗ bigSep (Finset.range 16) (fun k => sv c (21 + k)) ∗ sv c 37 ∗ sv c 38)

/-- The arrays before: the device's weights, and the three the kernel writes at their first contents. -/
def arr₀ : sProp 𝕄 :=
  iprop(((c : Thread nD τ).loc main_arg1 ↦{fullShare} m ((c : Thread nD τ).loc main_arg1))
    ∗ ((c : Thread nD τ).loc main_v1_0 ↦{fullShare} m ((c : Thread nD τ).loc main_v1_0))
    ∗ ((c : Thread nD τ).loc main_v1_1 ↦{fullShare} m ((c : Thread nD τ).loc main_v1_1))
    ∗ ((c : Thread nD τ).loc main_v1_2 ↦{fullShare} m ((c : Thread nD τ).loc main_v1_2)))
/-- The arrays after: the weights as they were, the result. -/
def arr₁ : sProp 𝕄 :=
  iprop(((c : Thread nD τ).loc main_arg1 ↦{fullShare} m ((c : Thread nD τ).loc main_arg1))
    ∗ ((c : Thread nD τ).loc main_v1_0 ↦{fullShare} mat (Out m ρ c))
    ∗ (∃ f, (c : Thread nD τ).loc main_v1_1 ↦{fullShare} f) ∗ (∃ f, (c : Thread nD τ).loc main_v1_2 ↦{fullShare} f))

def Φ₀ : sProp 𝕄 := iprop(start m ρ c ∗ scr c ∗ loc c ∗ arr₀ m c)
def Φ₁ : sProp 𝕄 := iprop(scr c ∗ sems c ∗ semVal (gBar c) 0 ∗ arr₁ m ρ c)

theorem S1_intro :
    iprop(bigSep (Finset.range 16) (fun k => dutyTok ER (gDma c (5 + k)) 0 ()) ∗ bigSep (Finset.range 16) (fun k => dutyTok ER (gDma (peer c) (21 + k)) 0 ()))
      ⊢ S1 (F := F) c 0 := by
  unfold S1; rw [Finset.range_eq_Ico, ← bigSep_sep']
theorem Rcv_intro :
    iprop(bigSep (Finset.range 16) (fun k => atPos ER (gDma c (21 + k)) 0 ∅ 0) ∗ bigSep (Finset.range 16) (fun k => cred (tallyAt (gDma c (21 + k)) () NR)))
      ⊢ Rcv (F := F) c 0 := by
  unfold Rcv; rw [Finset.range_zero, bigSep_empty, Finset.range_eq_Ico, ← bigSep_sep']
  iintro H; isplitl [H]; · iexact H
  iempintro
theorem Sdn_intro :
    iprop(bigSep (Finset.range 16) (fun k => atPos ER (gDma c (5 + k)) 0 ∅ 0) ∗ bigSep (Finset.range 16) (fun k => cred (tallyAt (gDma c (5 + k)) () NR)))
      ⊢ Sdn (F := F) c 0 := by
  unfold Sdn; rw [Finset.range_zero, bigSep_empty, Finset.range_eq_Ico, ← bigSep_sep']
  iintro H; isplitl [H]; · iexact H
  iempintro

abbrev body := cc0_body (F := F)
    xM (Memref.isWhole_whole _) wM (Memref.isWhole_whole _) oM (Memref.isWhole_whole _) lM (Memref.isWhole_whole _) rM (Memref.isWhole_whole _) wbM (Memref.isWhole_whole _) lbM (Memref.isWhole_whole _) mM (Memref.isWhole_whole _) sM (Memref.isWhole_whole _) msM (Memref.isWhole_whole _) mrM (Memref.isWhole_whole _)
    cc0_scratch6 cc0_scratch7 cc0_scratch8 cc0_scratch9 cc0_scratch10 cc0_scratch11 cc0_scratch12 cc0_scratch13

set_option maxHeartbeats 3200000 in
/-- The body, from what a device starts from to what it ends with. -/
theorem wp_body (Q : PUnit → sProp 𝕄) :
    iprop(Φ₀ m ρ c ∗ xP m ρ c ∗ ow c (O₀ c)) ⊢ iprop((iprop(Φ₁ m ρ c ∗ xP m ρ c ∗ ow c 0) -∗ Q ⟨⟩) -∗ WP c body Q) := by
  unfold body
  rw [cc0_body_eq_skeleton]; unfold cc0_body_skel
  unfold Φ₀ start Pos Tok Crd scr loc arr₀
  iintro ⟨⟨⟨#Hr, ⟨HpS, HpR, Hp37, Hp38, HpB⟩, ⟨HtS, HtR, Ht37, Ht38, HtB⟩, ⟨HcR, Hc38, HcB⟩⟩,
    ⟨Hw, Hl, Hm, Hs, Hms, Hmr⟩, ⟨Hv12, Hv34, Hv39, Hv41⟩, ⟨HW, Ho, HL, HR⟩⟩, Hx, HO⟩ Hk
  ihave HR := (rAny_whole c) $$ HR
  iapply (wp_part6 m ρ c) $$ [HR Hmr HtB HcB HpB Hm Hs HO]
  · isplitr; · iexact Hr
    isplitl [HR Hmr]
    · isplitl [HR]; · iexact HR
      unfold mrAny; iexact Hmr
    isplitl [HtB]; · iexact HtB
    isplitl [HcB]; · iexact HcB
    isplitl [HpB]; · iexact HpB
    isplitl [Hm]; · unfold mP; iexact Hm
    isplitl [Hs]; · unfold sP; iexact Hs
    iexact HO
  iintro %v5 %v8 %v9 %v17 %v19 ⟨Hpeer, HzB, Hm, Hs, HO⟩
  dsimp only
  ihave HW := (Entails.of_eq (wB_whole m c).symm) $$ HW
  ihave Hw := (wS_cut c) $$ Hw
  ihave Hl := (lS_cut c) $$ Hl
  ihave HL := (lAny_whole c) $$ HL
  ihave HS := (S1_intro c) $$ [HtS HtR]
  · isplitl [HtS] <;> iassumption
  iapply (wp_part7 m ρ c v5 v8 v9) $$ [Hx Hm Hs HW Hw Hv12 Hl Hv34 HL Hpeer HS Ht37 Ht38 Hms Hp37 HO]
  · isplitr; · iexact Hr
    isplitl [Hx]; · iexact Hx
    isplitl [Hm]; · iexact Hm
    isplitl [Hs]; · iexact Hs
    isplitl [HW]; · iexact HW
    isplitl [Hw Hv12]
    · isplitl [Hw] <;> iassumption
    isplitl [Hl Hv34]
    · isplitl [Hl] <;> iassumption
    isplitl [HL]; · iexact HL
    isplitl [Hpeer]; · iexact Hpeer
    isplitl [HS]; · iexact HS
    isplitl [Ht37 Ht38]
    · isplitl [Ht37] <;> iassumption
    isplitl [Hms]; · unfold msAny; iexact Hms
    isplitl [Hp37] <;> iassumption
  iintro %r ⟨Hx, Hm, Hs, HW, ⟨Hw, Hv12⟩, ⟨Hl, Hv34⟩, HL, HcS, Hms, Hz37, HO⟩
  obtain ⟨v52, v53⟩ := r
  dsimp only
  ihave Ho := (oAny_whole c) $$ Ho
  ihave Ho := (oAny_halves c) $$ Ho
  icases Ho with ⟨Ho, Ho'⟩
  iapply (wp_part8 m ρ c v17 v52 v53) $$ [Hc38 Hp38 Hm Hs Ho Hl Hv41 Hv39 HL HO]
  · isplitr; · iexact Hr
    isplitl [Hc38]; · iexact Hc38
    isplitl [Hp38]; · iexact Hp38
    isplitl [Hm]; · iexact Hm
    isplitl [Hs]; · iexact Hs
    isplitl [Ho]; · iexact Ho
    isplitl [Hl Hv41]
    · isplitl [Hl] <;> iassumption
    isplitl [Hv39]; · iexact Hv39
    isplitl [HL] <;> iassumption
  iintro %a ⟨Hmr, Hz38, Hm, Hs, Ho, ⟨Hl, Hv41⟩, Hv39, HL, HO⟩
  dsimp only
  ihave HcR := (Rcv_intro c) $$ [HpR HcR]
  · isplitl [HpR] <;> iassumption
  icases Hv41 with ⟨Hv41, Hv42⟩
  iapply (wp_loop4 m ρ c v5 v8 v9 v19 a) $$ [Ho' Hl Hv41 Hv42 HcR Hv39 HO]
  · unfold I4
    isplitr; · iexact Hr
    isplitl [Ho' Hl Hv41 Hv42]
    · iapply (half_zero m ρ c _ _)
      isplitl [Ho']; · iexact Ho'
      isplitl [Hl]; · iexact Hl
      isplitl [Hv41] <;> iassumption
    isplitr; · rw [rB_none c _ (by omega)]; iempintro
    isplitl [HcR]; · iexact HcR
    isplitl [Hv39]; · iexact Hv39
    iexact HO
  unfold I4
  iintro ⟨-, Hh, HR, HcR, Hv39, HO⟩
  simp only [Prog.lift, Prog.bind_op, Prog.bind_ret, Prog.pure_eq_ret]
  ihave Hh := (half_last m ρ c _ _) $$ Hh
  icases Hh with ⟨Hf₀, Hf₁, Ho₀⟩
  iapply (wp_waitF m ρ c (n := 41) (D := iprop(oB m ρ c (otherB c + 14336) (otherB c + 15360) ∗ lD c 0 (Nm m ρ c (Lg m ρ (peer c))) 14)) (O := 0)
      (wrSem_eq (b := 0) rfl _) (by omega) crd_o (Hi.zero.mid)) $$ [Hf₀ HO]
  · isplitr; · iexact Hr
    isplitl [Hf₀] <;> iassumption
  iintro ⟨⟨Ho₁, Hl₀⟩, Hv₁, HO⟩
  iapply (wp_waitF m ρ c (n := 42) (D := iprop(oB m ρ c (otherB c + 15360) (otherB c + 16384) ∗ lD c 1 (Nm m ρ c (Lg m ρ (peer c))) 15)) (O := 0)
      (wrSem_eq (b := 1) rfl _) (by omega) crd_o (Hi.zero.mid)) $$ [Hf₁ HO]
  · isplitr; · iexact Hr
    isplitl [Hf₁] <;> iassumption
  iintro ⟨⟨Ho₂, Hl₁⟩, Hv₂, HO⟩
  unfold S2
  ihave HcS := (Sdn_intro c) $$ [HpS HcS]
  · isplitl [HpS] <;> iassumption
  iapply (wp_loop5 m ρ c) $$ [HcS HO]
  · unfold I5
    isplitr; · iexact Hr
    isplitr; · rw [lB_none c _ _ (by omega)]; iempintro
    isplitl [HcS] <;> iassumption
  unfold I5
  iintro ⟨-, HL', HcS, HO⟩
  iapply (wp_done c)
  iapply Hk
  isplitr [Hx HO]
  · unfold Φ₁ scr sems loc arr₁
    isplitl [Hw Hl₀ Hl₁ Hm Hs Hms Hmr]
    · isplitl [Hw]; · iapply (wS_join c) $$ Hw
      isplitl [Hl₀ Hl₁]
      · iapply (lS_join c)
        isplitl [Hl₀]; · iapply (lD_any c _ _ _) $$ Hl₀
        iapply (lD_any c _ _ _) $$ Hl₁
      isplitl [Hm]; · unfold mP; iexists _; iexact Hm
      isplitl [Hs]; · unfold sP; iexists _; iexact Hs
      isplitl [Hms]; · unfold msAny; iexact Hms
      unfold mrAny; iexact Hmr
    isplitl [Hv12 Hv34 Hv39 Hv₁ Hv₂ HcS HcR Hz37 Hz38]
    · isplitl [Hv12 Hv34 Hv39 Hv₁ Hv₂]
      · isplitl [Hv12]; · iexact Hv12
        isplitl [Hv34]; · iexact Hv34
        isplitl [Hv39]; · iexact Hv39
        isplitl [Hv₁] <;> iassumption
      unfold Sdn Rcv
      icases HcS with ⟨-, HcS⟩
      icases HcR with ⟨-, HcR⟩
      isplitl [HcS]; · iexact HcS
      isplitl [HcR]; · iexact HcR
      isplitl [Hz37] <;> iassumption
    isplitl [HzB]; · iexact HzB
    isplitl [HW]; · iapply (Entails.of_eq (wB_whole m c)) $$ HW
    isplitl [Ho Ho₀ Ho₁ Ho₂]
    · iapply (Entails.of_eq (oB_whole m ρ c))
      iapply (oB_halves m ρ c)
      isplitl [Ho]; · iexact Ho
      iapply (oB_split m ρ c (mid := otherB c + 14336) (by omega) (by omega)).2
      isplitl [Ho₀]; · iexact Ho₀
      iapply (oB_split m ρ c (mid := otherB c + 15360) (by omega) (by omega)).2
      isplitl [Ho₁] <;> iassumption
    isplitl [HL HL']
    · iapply (lB_whole c (G := Lg m ρ c))
      iapply (lB_share c _).2
      isplitl [HL'] <;> iassumption
    iapply (rB_whole c (G := Lg m ρ (peer c))) $$ HR
  isplitl [Hx] <;> iassumption

end Whole

/-! ## The body obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

def bodyPre (c : Dev nD) : sProp 𝕄 :=
  iprop(Φ₀ m ρ c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m ρ c ∗ (dats m ρ 0 c).owesAt () t0_0.succ ∗ stg c cc0_stg0_0 (xv m ρ c))

theorem sound_body (c : Dev nD) : bodyPre m ρ c ⊢ WP c body (fun _ => bodyPost m ρ c) := by
  unfold bodyPre bodyPost
  iintro ⟨H, Ho, ⟨%d, %g, %hg, Hx⟩⟩
  have hx : g = xv m ρ c := by rw [hg]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl, show (dats m ρ 0 c).owed t0_0.succ = 0 from rfl]
  iapply (wp_body m ρ c _) $$ [H Hx HO]
  · isplitl [H]; · iexact H
    isplitl [Hx]; · unfold xP; iexact Hx
    unfold ow; iexists W; iexact HO
  iintro ⟨H, Hx, HO⟩
  unfold ow xP
  icases HO with ⟨%W', HO⟩
  isplitl [H]; · iexact H
  isplitl [HO]
  · iexists W'
    isplitr; · ipureintro; exact fun _ _ => Or.inl trivial
    iexact HO
  iexists _; isplitr; · (ipureintro; rfl)
  iexact Hx

/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ body (fun _ => bodyPost m ρ c)
  exact sound_body m ρ c

end Cert.KernelIdeal.Sharded

end
-- ==== Proof.KernelIdeal.Run.lean ====
/-
# The run

The launch: the cells and the tokens of their duties dealt to the devices that pay them, the credit each device starts with,
and the theorem that the eight devices run to the end from any memory.
-/
module

public import proofs.«01_k».proof.Proof.KernelIdeal.Body
public import Idealize.ShloMosaic.Lib.Pipeline.CollectiveSegs

@[expose] public section

noncomputable section

namespace Cert.KernelIdeal.Sharded

open Cert.KernelIdeal Cert.KernelIdeal.Gen Cert.Bands

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The family of a device's cells -/

theorem bigSep_range_add (a b : ℕ) (Ψ : ℕ → sProp 𝕄) :
    bigSep (Finset.range (a + b)) Ψ = iprop(bigSep (Finset.range a) Ψ ∗ bigSep (Finset.range b) fun k => Ψ (a + k)) := by
  have hd : Disjoint (Finset.range a) ((Finset.range b).map (addLeftEmbedding a)) := by
    rw [Finset.disjoint_left]; intro x hx hx'
    rw [Finset.mem_map] at hx'
    obtain ⟨y, -, rfl⟩ := hx'
    rw [Finset.mem_range] at hx
    exact absurd hx (by simp only [addLeftEmbedding_apply]; omega)
  have e : Finset.range (a + b) = Finset.range a ∪ (Finset.range b).map (addLeftEmbedding a) := by
    ext x
    simp only [Finset.mem_range, Finset.mem_union, Finset.mem_map, addLeftEmbedding_apply]
    constructor
    · intro h
      by_cases hx : x < a
      · exact .inl hx
      · exact .inr ⟨x - a, by omega, by omega⟩
    · rintro (h | ⟨y, hy, rfl⟩) <;> omega
  rw [e, BI.bigSep_union hd, bigSep_map]; rfl

theorem bigSep_range_one (Ψ : ℕ → sProp 𝕄) : bigSep (Finset.range 1) Ψ = Ψ 0 := by
  rw [Finset.range_one, bigSep_singleton]

theorem fam35 (Ψ : ℕ → sProp 𝕄) :
    bigSep (Finset.univ : Finset (Fin 35)) (fun i => Ψ i.val)
      = iprop(bigSep (Finset.range 16) Ψ ∗ bigSep (Finset.range 16) (fun k => Ψ (16 + k)) ∗ Ψ 32 ∗ Ψ 33 ∗ Ψ 34) := by
  rw [show bigSep (Finset.univ : Finset (Fin 35)) (fun i => Ψ i.val) = bigSep (Finset.range 35) Ψ by
      rw [← Nat.Iio_eq_range, show Finset.Iio 35 = (Finset.univ : Finset (Fin 35)).map Fin.valEmbedding from (Fin.map_valEmbedding_univ).symm, bigSep_map]; rfl]
  rw [show 35 = 16 + (16 + (1 + (1 + 1))) from rfl, bigSep_range_add, bigSep_range_add, bigSep_range_add, bigSep_range_add]
  simp only [bigSep_range_one]

/-- Over the cells of devices `e`, in their order. -/
theorem fam_cells (X : GSem nD τ sig → sProp 𝕄) (e : ℕ → Dev nD) :
    bigSep (Finset.univ : Finset (Fin 35)) (fun i => X (kcell (e i.val, i)))
      = iprop(bigSep (Finset.range 16) (fun k => X (gDma (e k) (5 + k))) ∗ bigSep (Finset.range 16) (fun k => X (gDma (e (16 + k)) (21 + k)))
          ∗ X (gDma (e 32) 37) ∗ X (gDma (e 33) 38) ∗ X (gBar (e 34))) := by
  have h := fam35 (F := F) fun n => X ((e n : Thread nD τ), if n < 34 then .dma (dsem (5 + n)) else .reg barS)
  refine Eq.trans h ?_
  rw [bigSep_congr (s := Finset.range 16) (Φ := fun n => X ((e n : Thread nD τ), if n < 34 then .dma (dsem (5 + n)) else .reg barS))
      (Ψ := fun k => X (gDma (e k) (5 + k))) fun k hk => by have := Finset.mem_range.mp hk; rw [if_pos (by omega)],
    bigSep_congr (s := Finset.range 16) (Φ := fun k => X ((e (16 + k) : Thread nD τ), if 16 + k < 34 then .dma (dsem (5 + (16 + k))) else .reg barS))
      (Ψ := fun k => X (gDma (e (16 + k)) (21 + k))) fun k hk => by
        have := Finset.mem_range.mp hk; rw [if_pos (by omega), show 5 + (16 + k) = 21 + k by omega],
    if_pos (by omega), if_pos (by omega), if_neg (by omega)]

theorem dsem_inj {a b : ℕ} (ha : a < 43) (hb : b < 43) (h : dsem a = dsem b) : a = b := by
  have := congrArg Fin.val h; rw [dsem_val ha, dsem_val hb] at this; exact this
theorem gDma_iff {a b : Dev nD} {n n' : ℕ} (hn : n < 43) (hn' : n' < 43) : Iff (gDma a n = gDma b n') (a = b ∧ n = n') := by
  constructor
  · intro h
    refine ⟨Fin.ext (congrArg (fun g : GSem nD τ sig => g.1.1.val) h), dsem_inj hn hn' ?_⟩
    exact SemLoc.dma.inj (congrArg Prod.snd h)
  · rintro ⟨rfl, rfl⟩; rfl
theorem gBar_iff {a b : Dev nD} : Iff (gBar a = gBar b) (a = b) :=
  ⟨fun h => Fin.ext (congrArg (fun g : GSem nD τ sig => g.1.1.val) h), fun h => h ▸ rfl⟩
theorem bar_ne {a b : Dev nD} {n : ℕ} : gBar a ≠ gDma b n := fun h => nomatch (congrArg Prod.snd h : SemLoc.reg barS = .dma (dsem n))

theorem csem_injective : Function.Injective csem := by
  intro i j h
  unfold csem at h
  apply Fin.ext
  split at h <;> split at h
  · have := dsem_inj (by omega) (by omega) (SemLoc.dma.inj h); omega
  · exact nomatch h
  · exact nomatch h
  · omega
theorem kcell_injective : Function.Injective (kcell : Dev nD × Fin 35 → GSem nD τ sig) := by
  rintro ⟨c, k⟩ ⟨c', k'⟩ h
  have h1 : c = c' := Fin.ext (congrArg (fun g : GSem nD τ sig => g.1.1.val) h)
  subst h1
  exact congrArg (Prod.mk c) (csem_injective (congrArg Prod.snd h : csem k = csem k'))

/-! ## What the launch deals -/

def ringCells : Finset (GSem nD τ sig) := Finset.univ.map ⟨kcell, kcell_injective⟩
def ringToks : Finset (GSem nD τ sig × ℕ × Unit) :=
  Finset.univ.map ⟨fun ck => (kcell ck, 0, ()), fun a b h => kcell_injective (congrArg (fun x : GSem nD τ sig × ℕ × Unit => x.1) h)⟩

def u₀ : UU :=
  (initOf (Pipeline.cells cfgs cellOf_inj) (Pipeline.launchToks cfgs cellOf_inj), (initOf ringCells ringToks, 1))

/-- What the launch element deals device `c`. -/
def G (c : Dev nD) : sProp 𝕄 :=
  iprop((bigSep Finset.univ fun k : Fin 35 => roundState ER (Rd m ρ) (kcell (c, k)) 0)
    ∗ (bigSep Finset.univ fun k : Fin 35 => atPos ER (kcell (c, k)) 0 ∅ 0)
    ∗ (bigSep Finset.univ fun k : Fin 35 => reached ER (kcell (c, k)) 0)
    ∗ (bigSep Finset.univ fun k : Fin 35 => dutyTok ER (kcell (c, k)) 0 ()))

/-- What every device has once the cells' invariants are allocated. -/
def G' (c : Dev nD) : sProp 𝕄 :=
  iprop(bigSep Finset.univ (fun ck : Dev nD × Fin 35 => Cell m ρ (kcell ck)) ∗ Pos c ∗ Tok c ∗ loc c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 35 => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun k : Fin 35 => dutyTok ER (kcell (c, k)) 0 () := by
    unfold ringToks; rw [bigSep_map, bigSep_univ_prod]; rfl
  iintro HX
  imod (Rounds.fund ER (Rd m ρ) ringCells ringToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-- The kernel's own semaphores: the DMA semaphores but the staging's. -/
def osem (i : Fin 42) : SemLoc sig := .dma ⟨i.val + 1, by have := i.isLt; show i.val + 1 < 43; omega⟩
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = bigSep (Finset.range 42) (fun n => sv c (1 + n)) := by
  unfold Pipeline.ownSems0
  rw [← Nat.Iio_eq_range, show Finset.Iio 42 = (Finset.univ : Finset (Fin 42)).map Fin.valEmbedding from (Fin.map_valEmbedding_univ).symm, bigSep_map]
  refine bigSep_congr fun k _ => ?_
  have e : osem k = .dma (dsem (1 + k.val)) := by
    unfold osem; congr 1; apply Fin.ext; rw [dsem_val (by omega)]; show k.val + 1 = 1 + k.val; omega
  rw [e]; rfl

theorem own_sems (c : Dev nD) : (Pipeline.ownSems0 (Ix := Unit) (Name := ℕ) (U := UU) (Lvl := ℕ) (Val := Elt F) (τ := τ) osem c : sProp 𝕄) ⊢ sems c := by
  rw [ownSems0_eq, show 42 = (1 + (1 + (1 + 1))) + (16 + (16 + ((1 + 1) + (1 + (1 + (1 + 1)))))) from rfl]
  simp only [bigSep_range_add, bigSep_range_one]
  unfold sems loc
  iintro ⟨⟨H1, H2, H3, H4⟩, HS, HR, ⟨H37, H38⟩, H39, H40, H41, H42⟩
  isplitl [H1 H2 H3 H4 H39 H40 H41 H42]
  · isplitl [H1 H2]; · (isplitl [H1]; · iexact H1
                        iexact H2)
    isplitl [H3 H4]; · (isplitl [H3]; · iexact H3
                        iexact H4)
    isplitl [H39 H40]; · (isplitl [H39]; · iexact H39
                          iexact H40)
    isplitl [H41]; · iexact H41
    iexact H42
  isplitl [HS]
  · iapply (Entails.of_eq (bigSep_congr fun k _ => by rw [show 1 + (1 + (1 + (1 + 1)) + k) = 5 + k by omega])) $$ HS
  isplitl [HR]
  · iapply (Entails.of_eq (bigSep_congr fun k _ => by rw [show 1 + (1 + (1 + (1 + 1)) + (16 + k)) = 21 + k by omega])) $$ HR
  isplitl [H37]; · iexact H37
  iexact H38
theorem sems_own (c : Dev nD) : sems c ⊢ (Pipeline.ownSems0 (Ix := Unit) (Name := ℕ) (U := UU) (Lvl := ℕ) (Val := Elt F) (τ := τ) osem c : sProp 𝕄) := by
  rw [ownSems0_eq, show 42 = (1 + (1 + (1 + 1))) + (16 + (16 + ((1 + 1) + (1 + (1 + (1 + 1)))))) from rfl]
  simp only [bigSep_range_add, bigSep_range_one]
  unfold sems loc
  iintro ⟨⟨⟨H1, H2⟩, ⟨H3, H4⟩, ⟨H39, H40⟩, H41, H42⟩, HS, HR, H37, H38⟩
  isplitl [H1 H2 H3 H4]
  · isplitl [H1]; · iexact H1
    isplitl [H2]; · iexact H2
    isplitl [H3]; · iexact H3
    iexact H4
  isplitl [HS]
  · iapply (Entails.of_eq (bigSep_congr fun k _ => by rw [show 1 + (1 + (1 + (1 + 1)) + k) = 5 + k by omega])) $$ HS
  isplitl [HR]
  · iapply (Entails.of_eq (bigSep_congr fun k _ => by rw [show 1 + (1 + (1 + (1 + 1)) + (16 + k)) = 21 + k by omega])) $$ HR
  isplitl [H37 H38]
  · isplitl [H37]; · iexact H37
    iexact H38
  isplitl [H39]; · iexact H39
  isplitl [H40]; · iexact H40
  isplitl [H41]; · iexact H41
  iexact H42

theorem unscopedSems0_eq (c : Dev nD) : (unscopedSems0 c : sProp 𝕄) = semVal (gBar c) 0 := by
  unfold unscopedSems0; rw [bigSep_eq_bigSepL_of_eq [SemLoc.reg barS] (by decide) (by decide)]; rfl

theorem sems0_cells (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 35 => semVal (kcell (c, k)) 0) ∗ loc c) : sProp 𝕄) := by
  rw [unscopedSems0_eq, fam_cells (fun g => (semVal g 0 : sProp 𝕄)) (fun _ => c)]
  iintro ⟨HA, HB⟩
  ihave HA := (own_sems c) $$ HA
  unfold sems
  icases HA with ⟨Hl, HS, HR, H37, H38⟩
  isplitr [Hl]
  · isplitl [HS]; · iexact HS
    isplitl [HR]; · iexact HR
    isplitl [H37]; · iexact H37
    isplitl [H38]; · iexact H38
    iexact HB
  iexact Hl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 35 => Cell m ρ (kcell (c, k)))
          ∗ Pos c ∗ (bigSep Finset.univ fun k : Fin 35 => dutyTok ER (kcell (c, k)) 0 ()) ∗ loc c) := by
  unfold G
  iintro ⟨Hos, Hus, Hst, Hat, Hre, Htok⟩
  ihave Hv := (sems0_cells (F := F) c) $$ [Hos Hus]
  · isplitl [Hos] <;> iassumption
  icases Hv with ⟨Hv, Hl⟩
  imod (show iprop((bigSep Finset.univ fun k : Fin 35 => semVal (kcell (c, k)) 0) ∗ bigSep Finset.univ fun k : Fin 35 => roundState ER (Rd m ρ) (kcell (c, k)) 0)
      ⊢ (|={Set.univ}=> bigSep Finset.univ fun k : Fin 35 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv Hre]
  · unfold Cell
    rw [bigSep_sep']
    isplitl [Hinv] <;> iassumption
  isplitl [Hat]
  · unfold Pos
    iapply (Entails.of_eq (fam_cells (fun g => (atPos ER g 0 ∅ 0 : sProp 𝕄)) (fun _ => c))) $$ Hat
  isplitl [Htok] <;> iassumption

/-- The cells whose duty the peer pays. -/
def far (n : ℕ) : Bool := decide ((16 ≤ n ∧ n < 32) ∨ n = 33 ∨ n = 34)
def payer (c : Dev nD) (n : ℕ) : Dev nD := if far n then peer c else c
theorem payer_payer (c : Dev nD) (n : ℕ) : payer (payer c n) n = c := by
  unfold payer; cases far n <;> simp [peer_peer]
def across : Dev nD × Fin 35 ≃ Dev nD × Fin 35 where
  toFun ck := (payer ck.1 ck.2.val, ck.2)
  invFun ck := (payer ck.1 ck.2.val, ck.2)
  left_inv ck := by simp [payer_payer]
  right_inv ck := by simp [payer_payer]

/-- The tokens dealt to the devices that pay them. -/
theorem toks_across :
    (bigSep Finset.univ fun c : Dev nD => bigSep Finset.univ fun k : Fin 35 => (dutyTok ER (kcell (c, k)) 0 () : sProp 𝕄)) ⊢ bigSep Finset.univ fun c : Dev nD => Tok c := by
  rw [← bigSep_univ_prod (fun ck : Dev nD × Fin 35 => (dutyTok ER (kcell ck) 0 () : sProp 𝕄)),
    bigSep_univ_equiv across (fun ck : Dev nD × Fin 35 => (dutyTok ER (kcell ck) 0 () : sProp 𝕄)), bigSep_univ_prod]
  refine bigSep_mono fun c _ => ?_
  refine (Entails.of_eq (fam_cells (fun g => (dutyTok ER g 0 () : sProp 𝕄)) (payer c))).trans ?_
  unfold Tok
  rw [bigSep_congr (s := Finset.range 16) (Φ := fun k => (dutyTok ER (gDma (payer c k) (5 + k)) 0 () : sProp 𝕄))
      (Ψ := fun k => (dutyTok ER (gDma c (5 + k)) 0 () : sProp 𝕄)) fun k hk => by
      have := Finset.mem_range.mp hk
      rw [show payer c k = c from if_neg (by unfold far; rw [decide_eq_true_iff]; omega)],
    bigSep_congr (s := Finset.range 16) (Φ := fun k => (dutyTok ER (gDma (payer c (16 + k)) (21 + k)) 0 () : sProp 𝕄))
      (Ψ := fun k => (dutyTok ER (gDma (peer c) (21 + k)) 0 () : sProp 𝕄)) fun k hk => by
      have := Finset.mem_range.mp hk
      rw [show payer c (16 + k) = peer c from if_pos (by unfold far; rw [decide_eq_true_iff]; omega)],
    show payer c 32 = c from rfl, show payer c 33 = peer c from rfl, show payer c 34 = peer c from rfl]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 35 => Cell m ρ (kcell (c, k)))
          ∗ Pos c ∗ (bigSep Finset.univ fun k : Fin 35 => dutyTok ER (kcell (c, k)) 0 ()) ∗ loc c) : sProp 𝕄)
      ⊢ bigSep Finset.univ (G' m ρ) := by
  rw [bigSep_sep', bigSep_sep', bigSep_sep', ← bigSep_univ_prod (fun ck : Dev nD × Fin 35 => Cell m ρ (kcell ck))]
  iintro ⟨#HC, Hat, Htok, Hl⟩
  ihave Htk := (toks_across (F := F)) $$ Htok
  iapply (bigSep_with_persistent (R := bigSep Finset.univ (fun ck : Dev nD × Fin 35 => Cell m ρ (kcell ck)))
    (Φ := fun c => iprop(Pos c ∗ Tok c ∗ loc c)) fun c _ => .rfl)
  isplitr; · iexact HC
  rw [bigSep_sep', bigSep_sep']
  isplitl [Hat]; · iexact Hat
  isplitl [Htk] <;> iassumption

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem O₀_apply (d : Dev nD) (g : GSem nD τ sig) :
    O₀ d g () = (∑ j ∈ Finset.Ico 0 16, if g = gDma (peer d) (21 + j) then NR else 0) + (if g = gDma (peer d) 38 then NM else 0)
      + (if g = gBar (peer d) then 1 else 0) := by
  unfold O₀ OM OR
  rw [Pi.add_apply, Finsupp.add_apply, Pi.add_apply, Finsupp.add_apply, Finset.sum_apply, Finsupp.finset_sum_apply]
  simp only [tallyAt_apply, and_true]

theorem peer_eq_iff {d c : Dev nD} : Iff (c = peer d) (d = peer c) :=
  ⟨fun h => by rw [h, peer_peer], fun h => by rw [h, peer_peer]⟩

theorem owed_recv (d c : Dev nD) {k : ℕ} (hk : k < 16) : O₀ d (gDma c (21 + k)) () = if d = peer c then NR else 0 := by
  rw [O₀_apply, if_neg (fun h => absurd ((gDma_iff (by omega) (by omega)).mp h).2 (by omega)), if_neg (fun h => bar_ne h.symm), add_zero, add_zero]
  by_cases h : d = peer c
  · rw [if_pos h, Finset.sum_eq_single k, if_pos ((gDma_iff (by omega) (by omega)).mpr ⟨peer_eq_iff.mpr h, rfl⟩)]
    · intro j hj hne
      have := Finset.mem_Ico.mp hj
      exact if_neg fun h' => absurd ((gDma_iff (by omega) (by omega)).mp h').2 (by omega)
    · intro hn; exact absurd (Finset.mem_Ico.mpr ⟨Nat.zero_le _, hk⟩) hn
  · rw [if_neg h]
    refine Finset.sum_eq_zero fun j hj => ?_
    have := Finset.mem_Ico.mp hj
    exact if_neg fun h' => h (peer_eq_iff.mp ((gDma_iff (by omega) (by omega)).mp h').1)
theorem owed_pair (d c : Dev nD) : O₀ d (gDma c 38) () = if d = peer c then NM else 0 := by
  rw [O₀_apply, if_neg (fun h : gDma c 38 = gBar (peer d) => bar_ne h.symm), add_zero, Finset.sum_eq_zero, zero_add]
  · exact if_congr ((gDma_iff (by omega) (by omega)).trans ⟨fun h => peer_eq_iff.mp h.1, fun h => ⟨peer_eq_iff.mpr h, rfl⟩⟩) rfl rfl
  · intro j hj
    have := Finset.mem_Ico.mp hj
    exact if_neg fun h' => absurd ((gDma_iff (by omega) (by omega)).mp h').2 (by omega)
theorem owed_bar (d c : Dev nD) : O₀ d (gBar c) () = if d = peer c then 1 else 0 := by
  rw [O₀_apply, if_neg (fun h : gBar c = gDma (peer d) 38 => bar_ne h), Finset.sum_eq_zero (fun j _ => if_neg bar_ne), add_zero, zero_add]
  exact if_congr (gBar_iff.trans peer_eq_iff) rfl rfl

/-- A cell that only its device's peer owes has that much credit at launch. -/
theorem launch_at (g : GSem nD τ sig) (c : Dev nD) {N : ℕ} (h : ∀ d, O₀ d g () = if d = peer c then N else 0) :
    tallyOn g (launchCredit (Pipeline.owing O₀) 0 g) = (tallyAt g () N : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => N,
    if_pos (Finset.mem_univ _)]

theorem creds (c : Dev nD) : (Pipeline.launchCred O₀ c : sProp 𝕄) ⊢ Crd c := by
  unfold Pipeline.launchCred
  refine (bigSep_subset (t := Finset.univ.map ⟨csem, csem_injective⟩) (Finset.subset_univ _)).trans ?_
  rw [bigSep_map]
  refine (Entails.of_eq (fam_cells (fun g => (cred (tallyOn g (launchCredit (Pipeline.owing O₀) 0 g)) : sProp 𝕄)) (fun _ => c))).trans ?_
  unfold Crd
  rw [launch_at (gDma c 38) c fun d => owed_pair d c, launch_at (gBar c) c fun d => owed_bar d c,
    bigSep_congr (s := Finset.range 16) (Φ := fun k => (cred (tallyOn (gDma c (21 + k)) (launchCredit (Pipeline.owing O₀) 0 (gDma c (21 + k)))) : sProp 𝕄))
      (Ψ := fun k => (cred (tallyAt (gDma c (21 + k)) () NR) : sProp 𝕄)) fun k hk => by
      rw [launch_at (gDma c (21 + k)) c fun d => owed_recv d c (Finset.mem_range.mp hk)]]
  iintro ⟨-, HR, -, HM, HB⟩
  isplitl [HR]; · iexact HR
  isplitl [HM] <;> iassumption

/-! ## The run -/

def into (c : Dev nD) : sProp 𝕄 := iprop(start m ρ c ∗ loc c ∗ arr₀ m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(into m ρ c ∗ emp) := by
  rw [Pipeline.unscopedRestP_none, unscopedRest0_eq]
  unfold G' into start recs arr₀
  iintro ⟨Ha, Hlev, Hcr, -, HC, HP, HT, Hl⟩
  ihave Hc := (creds (F := F) c) $$ Hcr
  imodintro
  isplitl
  · isplitr [Ha Hl]
    · isplitl [HC Hlev]
      · isplitl [HC] <;> iassumption
      isplitl [HP]; · iexact HP
      isplitl [HT] <;> iassumption
    isplitl [Hl]; · iexact Hl
    iexact Ha
  · iempintro

theorem phi0_intro (c : Dev nD) :
    iprop(into m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ into scr
  iintro ⟨⟨Hs, Hl, Ha⟩, -, Hr⟩
  isplitl [Hs]; · iexact Hs
  isplitl [Hr]; · iexact Hr
  isplitl [Hl] <;> iassumption

def outOf (c : Dev nD) : sProp 𝕄 := iprop(unscopedSems0 c ∗ arr₁ m ρ c)

theorem phi1_exit (c : Dev nD) :
    (dats m ρ 0 c).Φ (Fin.last cfg0.N) ⊢ iprop(outOf m ρ c ∗ Pipeline.ownSems0 osem c ∗ Pipeline.scopedRest cfg0.spec c) := by
  rw [show (dats m ρ 0 c).Φ (Fin.last cfg0.N) = Φ₁ m ρ c from rfl, scopedRest0_eq]
  unfold outOf Φ₁ scr
  rw [unscopedSems0_eq]
  iintro ⟨Hr, Hz, HzB, Ha⟩
  isplitl [HzB Ha]
  · isplitl [HzB] <;> iassumption
  isplitl [Hz]; · iapply (sems_own c) $$ Hz
  iexact Hr

theorem owed_mid (c : Dev nD) (t : Fin (cfg0.N + 1)) : Mid ((dats (F := F) m ρ 0 c).owed t) := by
  rcases t with ⟨_ | _, ht⟩
  · exact Mid.O₀ c
  · exact Hi.zero.mid

theorem waits (c : Dev nD) : (levAts L lv : sProp 𝕄) ⊢ Pipeline.cellsWaits cfgs (dats m ρ) () 0 c :=
  Pipeline.cellsWaits_intro cfgs (dats m ρ) () 0 c fun w s t => by
    have e : (cfg0.win w).sem s = dsem 0 := by fin_cases w; fin_cases s; rfl
    have h := mayWait_low (F := F) c 0 (by decide) (owed_mid m ρ c t)
    rw [← e] at h
    exact h

theorem share_eq (c : Dev nD) (w : Fin cfg0.W) : (dats m ρ 0 c).share w = fullShare := by unfold Dat.share; split <;> rfl

/-- What the run ends with on every device: its result at the computed contents, its arguments as they were. -/
def QC : PUnit × MemSt nD τ sig (Elt F) → Prop := fun r =>
  ∀ c : Dev nD, r.2.mem ((c : Thread nD τ).loc main_v1_0) = mat (Out m ρ c)
    ∧ r.2.mem ((c : Thread nD τ).loc main_arg0) = m ((c : Thread nD τ).loc main_arg0)
    ∧ r.2.mem ((c : Thread nD τ).loc main_arg1) = m ((c : Thread nD τ).loc main_arg1)

set_option maxRecDepth 8000 in
/-- For any float values, from any memory with zero counters: every weakly fair execution of the eight devices terminates,
    and every final state has each device's result at the computed contents, the arguments unchanged and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_ring m ρ) $$ HX with HG
      imodintro
      isplitl [HP] <;> iassumption)
    (hglob := glob m ρ)
    (hA := fun _ _ => rfl) (hpf := fun _ k => k.elim0)
    (X := into m ρ) (Y := outOf m ρ) (Z := fun _ => iprop(emp))
    (hX := start_intro m ρ) (hin := phi0_intro m ρ) (hout := phi1_exit m ρ)
    (QY := fun c s => (s.mem ((c : Thread nD τ).loc main_v1_0) = mat (Out m ρ c)
        ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      unfold outOf arr₁
      iintro ⟨⟨Hu, Hw, Ho, -, -⟩, -, HSI⟩
      icombine HSI Hw gives %hw
      icombine HSI Ho gives %ho
      imod (Pipeline.unscopedSems0_read (X := unscopedSems0 c) (c := c) fupd_intro s') $$ [Hu HSI] with ⟨%hs, HSI⟩
      · isplitl [Hu] <;> iassumption
      imodintro
      isplitr; · ipureintro; exact ⟨⟨Buf.eq_of_forall_mem_univ ho, Buf.eq_of_forall_mem_univ hw⟩, hs⟩
      iexact HSI)
    (hQ := fun s h hs => ⟨fun c => ⟨(h c).2.2.1.1, ((h c).1 (0 : Fin 1)).trans ((dats (F := F) m ρ 0 c).arrAt_in (0 : Fin 1) rfl _), (h c).2.2.1.2⟩,
      sem_eq_zero hs fun c => (h c).2.2.2⟩)

end Cert.KernelIdeal.Sharded

end
-- ==== Proof.Softmax.lean ====
/-
# A row's softmax, accumulated

Extended-real facts about one row of logits that are all real: folding their maximum and their sum of exponentials chunk
by chunk keeps both real, the sum is relative to whatever maximum it was taken against, and the quotient a softmax forms
does not depend on that maximum.
-/
module

public import Idealize.ShloMosaic.PureOps.Ideal

@[expose] public section

noncomputable section

namespace Cert.Softmax

open Idealize.ShloMosaic
open scoped BigOperators

/-- A sum of reals, read in the extended reals. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greater of a real and the maximum of finitely many reals is a real. -/
theorem max_fold_real {ι : Type*} (s : Finset ι) (f : ι → ℝ) (b : ℝ) :
    ∃ r : ℝ, max (b : EReal) (s.fold max ⊥ fun i => (f i : EReal)) = r := by
  classical
  induction s using Finset.induction_on with
  | empty => exact ⟨b, by simp⟩
  | insert a s ha ih =>
    obtain ⟨r, hr⟩ := ih
    exact ⟨max (f a) r, by rw [Finset.fold_insert ha, max_left_comm, hr]; exact (EReal.coe_strictMono.monotone.map_max).symm⟩

/-- The maximum of a nonempty finite family of reals is a real. -/
theorem fold_real {ι : Type*} [Fintype ι] (a : ι) (f : ι → ℝ) :
    ∃ r : ℝ, (Finset.univ.fold max ⊥ fun i => (f i : EReal)) = r := by
  obtain ⟨r, hr⟩ := max_fold_real Finset.univ f (f a)
  refine ⟨r, (max_eq_right ?_).symm.trans hr⟩
  exact (Finset.le_fold_max _).2 (Or.inr ⟨a, Finset.mem_univ a, le_rfl⟩)

/-- The exponential of a difference of reals. -/
theorem exp_sub_coe (a b : ℝ) : Ideal.exp ((a : EReal) - (b : EReal)) = (Real.exp (a - b) : EReal) := by
  rw [← EReal.coe_sub, Ideal.exp_coe]

/-- Exponentials of a row relative to one maximum, carried over to another. -/
theorem rebase {ι : Type*} (s : Finset ι) (l : ι → ℝ) (b b' : ℝ) :
    (∑ i ∈ s, Real.exp (l i - b)) * Real.exp (b - b') = ∑ i ∈ s, Real.exp (l i - b') := by
  rw [Finset.sum_mul]
  refine Finset.sum_congr rfl fun i _ => ?_
  rw [← Real.exp_add]; congr 1; ring

/-- The exponentials of the first `n` logits of a row, relative to `b`. -/
def part (l : ℕ → ℝ) (n : ℕ) (b : ℝ) : ℝ := ∑ i ∈ Finset.range n, Real.exp (l i - b)

/-- A sum over a row's positions. -/
theorem sum_part (l : ℕ → ℝ) (n : ℕ) (b : ℝ) (f : Fin n → EReal) (hf : ∀ q, f q = (Real.exp (l q.val - b) : EReal)) :
    ∑ q, f q = (part l n b : EReal) := by
  unfold part
  rw [Finset.sum_range (fun q => Real.exp (l q - b)), ← sum_coe]
  exact Finset.sum_congr rfl fun q _ => hf q

/-- A row in two parts. -/
theorem part_add (l : ℕ → ℝ) (n n' : ℕ) (b : ℝ) : part l (n + n') b = part l n b + part (fun q => l (n + q)) n' b :=
  Finset.sum_range_add _ _ _

/-- One chunk of `w` logits taken into the running sum. -/
theorem part_step (l : ℕ → ℝ) (n w : ℕ) (b b' : ℝ) :
    ((part l n b : ℝ) : EReal) * Ideal.exp ((b : EReal) - (b' : EReal)) + ∑ q : Fin w, Ideal.exp ((l (n + q.val) : EReal) - (b' : EReal))
      = (part l (n + w) b' : EReal) := by
  simp only [exp_sub_coe]
  rw [sum_coe, ← EReal.coe_mul, ← EReal.coe_add]
  congr 1
  unfold part
  rw [rebase, Finset.sum_range_add, Finset.sum_range (fun x => Real.exp (l (n + x) - b'))]

/-- Two parts of a row, brought to one maximum and added. -/
theorem join (l l' : ℕ → ℝ) (n n' : ℕ) (b b' g : ℝ) :
    ((part l n b : ℝ) : EReal) * Ideal.exp ((b : EReal) - (g : EReal)) + ((part l' n' b' : ℝ) : EReal) * Ideal.exp ((b' : EReal) - (g : EReal))
      = ((part l n g + part l' n' g : ℝ) : EReal) := by
  simp only [exp_sub_coe]
  rw [← EReal.coe_mul, ← EReal.coe_mul, ← EReal.coe_add]
  unfold part
  rw [rebase, rebase]

theorem part_pos (l : ℕ → ℝ) {n : ℕ} (hn : 0 < n) (b : ℝ) : 0 < part l n b :=
  Finset.sum_pos (fun i _ => Real.exp_pos _) ⟨0, Finset.mem_range.2 hn⟩

/-- A softmax's quotient does not depend on the maximum it is taken against. -/
theorem quotient (l : ℕ → ℝ) (n q : ℕ) (b b' : ℝ) :
    Real.exp (l q - b) / part l n b = Real.exp (l q - b') / part l n b' := by
  have e : part l n b' = part l n b * Real.exp (b - b') := (rebase _ _ _ _).symm
  have e' : Real.exp (l q - b') = Real.exp (l q - b) * Real.exp (b - b') := by rw [← Real.exp_add]; congr 1; ring
  rw [e, e', mul_div_mul_right _ _ (Real.exp_pos _).ne']

/-- A real over a positive real, as a product with the reciprocal and as a quotient. -/
theorem mul_div_one (a s : ℝ) (hs : s ≠ 0) : (a : EReal) * Ideal.div 1 (s : EReal) = ((a / s : ℝ) : EReal) := by
  rw [Ideal.div_coe hs, one_mul, ← EReal.coe_mul, mul_one_div]
theorem div_real (a s : ℝ) (hs : s ≠ 0) : Ideal.div (a : EReal) (s : EReal) = ((a / s : ℝ) : EReal) := by
  rw [Ideal.div_coe hs, ← EReal.coe_mul, mul_one_div]

end Cert.Softmax

end
-- ==== Proof.KernelIdeal.Value.lean ====
/-
# The values the kernel computes

At the ideal instance: each payload read at an index, and from those, the running maximum and the running sum of a row after
each chunk, the joint maximum and reciprocal sum, and the normalised result, for inputs that are real.
-/
module

public import proofs.«01_k».proof.Proof.KernelIdeal.Values
public import proofs.«01_k».proof.Proof.Softmax
public import Idealize.ShloMosaic.Lib.ValueLayout
public import Idealize.ShloMosaic.Lib.IdealHost
public import Idealize.ShloMosaic.Lib.MatmulPlain

@[expose] public section

noncomputable section

namespace Cert.KernelIdeal.Sharded

open Cert.KernelIdeal Cert.KernelIdeal.Gen Cert.Bands Cert.Softmax

open Idealize.ShloMosaic
open Idealize.ShloMosaic.TcCoe
open Idealize.SL.Sem
open Idealize.ShloMosaic.ValueIdx (ix1 ix2 ix3)
open scoped BigOperators

/-! ## Payloads at an index -/

section At
variable {α : Type}

/-- A vector as a column: the entry of row `p`. -/
theorem column_at (v : S1024.Idx → α) (h : S1024.ShapeCasts S1024x1) (p : Fin 1024) : shapeCast S1024x1 v h (ix2 p 0) = v (ix1 p) :=
  shapeCast_apply v h _ _ (by
    rw [Shape.rowMajor_val_two, Shape.rowMajor_val_one]
    show p.val = p.val * 1 + 0
    omega)

/-- A column along every column: the entry of row `p`. -/
theorem along_at (v : S1024x1.Idx → α) (h : S1024x1.Broadcasts S1024x1024) (p q : Fin 1024) : broadcastTo S1024x1024 v h (ix2 p q) = v (ix2 p 0) :=
  broadcastTo_apply v h (ix2 p q) (ix2 p 0) fun ax => match ax with | ⟨0, _⟩ => rfl | ⟨1, _⟩ => rfl

end At

theorem lift_at (h : S1024x1024.Reduces [1] S1024) (p q : Fin 1024) : h.lift (ix1 p) q = (ix2 p q : S1024x1024.Idx) := by
  funext a
  match a with
  | ⟨0, _⟩ => exact Fin.ext rfl
  | ⟨1, _⟩ => exact Fin.ext rfl

theorem neg_inf : Ideal.ofBits .f32 0xFF800000#32 = ⊥ := by simp [Ideal.ofBits, Ideal.ieee]

/-- A row's maximum and a row's sum. -/
theorem rowMax_at (v : FVec Ideal S1024x1024 .f32) (p : Fin 1024) :
    (multiReduction .maximumf [1] S1024 v 0xFF800000#32 reduces_S1024x1024_S1024 (.inl rfl) rfl (ix1 p) : EReal)
      = Finset.univ.fold max ⊥ fun q : Fin 1024 => (v (ix2 p q) : EReal) := by
  refine (Ideal.multiReduction_maximumf_single v _ _ _ _ (ix1 p)).trans ?_
  show Finset.univ.fold max (Ideal.ofBits .f32 0xFF800000#32) _ = _
  rw [neg_inf]
  exact congrArg (Finset.univ.fold max (⊥ : EReal)) (funext fun q => congrArg v (lift_at _ p q))
theorem rowSum_at (v : FVec Ideal S1024x1024 .f32) (p : Fin 1024) :
    (multiReduction .add [1] S1024 v 0x00000000#32 reduces_S1024x1024_S1024 (.inl rfl) rfl (ix1 p) : EReal)
      = ∑ q : Fin 1024, (v (ix2 p q) : EReal) :=
  (Ideal.multiReduction_add_single v _ _ _ _ (ix1 p)).trans (Finset.sum_congr rfl fun q _ => congrArg v (lift_at _ p q))

/-- A chunk's product at `(p, q)`. -/
theorem pay2_at (x : Vec Ideal S1024x2048 .f32) (w : Vec Ideal S1x2048x1024 .f32) (p q : Fin 1024) :
    (k0_pay2 (F := Ideal) x w (ix2 p q) : EReal) = ∑ d : Fin 2048, (x (ix2 p d) : EReal) * w (ix3 0 d q) := by
  unfold k0_pay2
  refine (Ideal.matmul_plain_apply (M := 1024) (K := 2048) (N := 1024) none _ _ _ p q).trans ?_
  rw [shapeCast_self]
  show Ideal.ofBits .f32 0x00000000#32 + _ = _
  rw [Ideal.ofBits_zero_f32, zero_add]
  exact Finset.sum_congr rfl fun d _ => congrArg ((x (ix2 p d) : EReal) * ·) (ValueIdx.shapeCast_1ab_ab_apply w _ d q)

/-- The new running maximum of row `p`. -/
theorem pay3_at (x : Vec Ideal S1024x2048 .f32) (w : Vec Ideal S1x2048x1024 .f32) (M : Vec Ideal S1024x1 .f32) (p : Fin 1024) :
    (k0_pay3 (F := Ideal) x w M (ix2 p 0) : EReal) = max (M (ix2 p 0)) (Finset.univ.fold max ⊥ fun q : Fin 1024 => (k0_pay2 (F := Ideal) x w (ix2 p q) : EReal)) :=
  congrArg (max (M (ix2 p 0) : EReal)) ((column_at _ _ p).trans (rowMax_at _ p))

/-- The new running sum of row `p`. -/
theorem pay4_at (x : Vec Ideal S1024x2048 .f32) (w : Vec Ideal S1x2048x1024 .f32) (M S : Vec Ideal S1024x1 .f32) (p : Fin 1024) :
    (k0_pay4 (F := Ideal) x w M S (ix2 p 0) : EReal)
      = S (ix2 p 0) * Ideal.exp (M (ix2 p 0) - k0_pay3 (F := Ideal) x w M (ix2 p 0))
        + ∑ q : Fin 1024, Ideal.exp (k0_pay2 (F := Ideal) x w (ix2 p q) - k0_pay3 (F := Ideal) x w M (ix2 p 0)) := by
  unfold k0_pay4
  dsimp only
  rw [shapeCast_self]
  refine congrArg ((S (ix2 p 0) * Ideal.exp (M (ix2 p 0) - k0_pay3 (F := Ideal) x w M (ix2 p 0)) : EReal) + ·) ?_
  refine (column_at _ _ p).trans ((rowSum_at _ p).trans (Finset.sum_congr rfl fun q _ => ?_))
  exact congrArg (fun e : EReal => Ideal.exp (k0_pay2 (F := Ideal) x w (ix2 p q) - e)) (along_at _ _ p q)

/-- A chunk normalised, at `(p, q)`. -/
theorem pay7_at (g i : FVec Ideal S1024x1 .f32) (s : Vec Ideal S1x1024x1024 .f32) (p q : Fin 1024) :
    (k0_pay7 (F := Ideal) g i s (ix3 0 p q) : EReal) = Ideal.exp (s (ix3 0 p q) - g (ix2 p 0)) * i (ix2 p 0) := by
  unfold k0_pay7
  refine (ValueIdx.shapeCast_ab_1ab_apply _ _ 0 p q).trans ?_
  show Ideal.exp (shapeCast S1024x1024 s _ (ix2 p q) - broadcastTo S1024x1024 g _ (ix2 p q) : EReal) * broadcastTo S1024x1024 i _ (ix2 p q) = _
  rw [along_at, along_at, ValueIdx.shapeCast_1ab_ab_apply]

/-- The reciprocal of the joint sum of row `p`. -/
theorem pay13_at (M S M' S' : Vec Ideal S1024x1 .f32) (p : Fin 1024) :
    (k0_pay13 (F := Ideal) M S M' S' (ix2 p 0) : EReal)
      = Ideal.div 1 (S (ix2 p 0) * Ideal.exp (M (ix2 p 0) - max (M (ix2 p 0) : EReal) (M' (ix2 p 0))) + S' (ix2 p 0) * Ideal.exp (M' (ix2 p 0) - max (M (ix2 p 0) : EReal) (M' (ix2 p 0)))) :=
  congrArg (fun e : EReal => Ideal.div e (S (ix2 p 0) * Ideal.exp (M (ix2 p 0) - max (M (ix2 p 0) : EReal) (M' (ix2 p 0))) + S' (ix2 p 0) * Ideal.exp (M' (ix2 p 0) - max (M (ix2 p 0) : EReal) (M' (ix2 p 0)))))
    Ideal.ofBits_one_f32

/-- The literal the running maximum starts from is a real. -/
theorem start_real : ∃ b : ℝ, ∀ p : Fin 1024, (k0_pay8 (F := Ideal) (ix2 p 0) : EReal) = b := by
  have h : ∃ b : ℝ, Ideal.ofBits .f32 0xF149F2CA#32 = b := ⟨_, by simp [Ideal.ofBits, Ideal.ieee]; rfl⟩
  obtain ⟨b, hb⟩ := h
  refine ⟨b, fun p => ?_⟩
  unfold k0_pay8
  rw [shapeCast_self]
  exact hb
theorem start_zero (p : Fin 1024) : (k0_pay9 (F := Ideal) (ix2 p 0) : EReal) = 0 := by
  unfold k0_pay9
  rw [shapeCast_self]
  exact Ideal.ofBits_zero_f32

/-! ## Rows of real logits -/

section Rows
variable (m : (ℓ : Loc nD τ sig) → Buf (Elt Ideal) ℓ) (ρ : Dev nD → PrngReg)
variable (X : Fin 1024 → Fin 2048 → ℝ) (W : Fin 2048 → ℕ → ℝ)

/-- Logit `q` of row `p`. -/
def logit (p : Fin 1024) (q : ℕ) : ℝ := ∑ d : Fin 2048, X p d * W d q

/-- The inputs are these reals: every device holds all of `x`, and its own half of the weights' columns. -/
structure Inputs : Prop where
  x : ∀ (c : Dev nD) (p : Fin 1024) (d : Fin 2048), @Eq EReal (m ((c : Thread nD τ).loc main_arg0) (ix2 p d : S1024x2048.Idx)) (X p d : EReal)
  w : ∀ (c : Dev nD) (d : Fin 2048) (q : Fin 16384), @Eq EReal (m ((c : Thread nD τ).loc main_arg1) (ix2 d q : S2048x16384.Idx)) (W d (ownB c + q.val) : EReal)

variable {m X W} (hI : Inputs m X W)
include hI

theorem xv_at (c : Dev nD) (p : Fin 1024) (d : Fin 2048) : (xv m ρ c (ix2 p d) : EReal) = X p d := by
  refine Eq.trans ?_ (hI.x c p d)
  unfold xv
  refine congrArg (m ((c : Thread nD τ).loc main_arg0)) (funext fun a => ?_)
  match a with
  | ⟨0, _⟩ => exact Fin.ext (by show 0 + 1 * p.val = p.val; omega)
  | ⟨1, _⟩ => exact Fin.ext (by show 0 + 1 * d.val = d.val; omega)

theorem wv_at (c : Dev nD) {k : ℕ} (hk : k < 16) (d : Fin 2048) (q : Fin 1024) : (wv m c k (ix3 0 d q) : EReal) = W d (ownB c + (1024 * k + q.val)) := by
  have hq : 1024 * k + q.val < 16384 := by omega
  refine Eq.trans ?_ (hI.w c d ⟨1024 * k + q.val, hq⟩)
  refine congrArg (m ((c : Thread nD τ).loc main_arg1)) (funext fun a => ?_)
  match a with
  | ⟨0, _⟩ => exact Fin.ext (Nat.mod_eq_of_lt d.isLt)
  | ⟨1, _⟩ => exact Fin.ext (Nat.mod_eq_of_lt hq)

/-- Chunk `k` of a device's products holds its logits. -/
theorem product_at (c : Dev nD) {k : ℕ} (hk : k < 16) (p q : Fin 1024) :
    (k0_pay2 (F := Ideal) (xv m ρ c) (wv m c k) (ix2 p q) : EReal) = logit X W p (ownB c + (1024 * k + q.val)) := by
  rw [pay2_at]
  unfold logit
  rw [← sum_coe]
  exact Finset.sum_congr rfl fun d _ => by rw [xv_at ρ hI, wv_at hI c hk, EReal.coe_mul]

/-- After `k` chunks the running maximum of row `p` is a real, and the running sum is that of the chunks' exponentials
relative to it. -/
theorem row_state (c : Dev nD) (p : Fin 1024) : ∀ k ≤ 16, ∃ b : ℝ, (mst m ρ c k (ix2 p 0) : EReal) = b
    ∧ (sst m ρ c k (ix2 p 0) : EReal) = part (fun q => logit X W p (ownB c + q)) (1024 * k) b
  | 0, _ => by
    obtain ⟨b, hb⟩ := start_real
    exact ⟨b, hb p, (start_zero p).trans (by simp [part])⟩
  | k + 1, hk => by
    obtain ⟨b, hm, hs⟩ := row_state c p k (by omega)
    obtain ⟨b', hb'⟩ := max_fold_real Finset.univ (fun q : Fin 1024 => logit X W p (ownB c + (1024 * k + q.val))) b
    have h3 : (k0_pay3 (F := Ideal) (xv m ρ c) (wv m c k) (mst m ρ c k) (ix2 p 0) : EReal) = b' := by
      rw [pay3_at, hm, ← hb']
      exact congrArg (fun f => max (b : EReal) (Finset.univ.fold max ⊥ f)) (funext fun q => product_at ρ hI c (by omega) p q)
    refine ⟨b', ?_, ?_⟩
    · show (k0_pay5 (F := Ideal) (xv m ρ c) (wv m c k) (mst m ρ c k) (ix2 p 0) : EReal) = b'
      unfold k0_pay5
      rw [shapeCast_self]; exact h3
    · refine (pay4_at _ _ _ _ p).trans ?_
      rw [h3, hm, hs]
      refine Eq.trans ?_ (part_step (fun q => logit X W p (ownB c + q)) (1024 * k) 1024 b b')
      exact congrArg (((part (fun q => logit X W p (ownB c + q)) (1024 * k) b : ℝ) : EReal) * Ideal.exp ((b : EReal) - (b' : EReal)) + ·)
        (Finset.sum_congr rfl fun q _ => by rw [product_at ρ hI c (by omega)])

omit hI in
/-- A row's exponentials are those of a device's half and of its peer's. -/
theorem halves (l : ℕ → ℝ) (c : Dev nD) (g : ℝ) :
    part (fun q => l (ownB c + q)) 16384 g + part (fun q => l (ownB (peer c) + q)) 16384 g = part l 32768 g := by
  have e : part (fun q => l (0 + q)) 16384 g + part (fun q => l (16384 + q)) 16384 g = part l 32768 g := by
    rw [show (32768 : ℕ) = 16384 + 16384 from rfl, part_add l 16384 16384]
    simp only [Nat.zero_add]
  have h := half_lt c
  have h' := peer_half c
  rcases (by omega : c.val / 4 = 0 ∨ c.val / 4 = 1) with h0 | h0
  · have e1 : ownB c = 0 := by unfold ownB; omega
    have e2 : ownB (peer c) = 16384 := by unfold ownB; omega
    rw [e1, e2]; exact e
  · have e1 : ownB c = 16384 := by unfold ownB; omega
    have e2 : ownB (peer c) = 0 := by unfold ownB; omega
    rw [e1, e2, add_comm]; exact e

omit hI in
/-- Two halves' maxima and sums, joined: the maximum is a real, and the reciprocal is that of the two sums relative to it. -/
theorem joined (M S M' S' : Vec Ideal S1024x1 .f32) (p : Fin 1024) (l l' : ℕ → ℝ) (n : ℕ) (b b' : ℝ)
    (hm : @Eq EReal (M (ix2 p 0)) (b : EReal)) (hs : @Eq EReal (S (ix2 p 0)) (part l n b : EReal))
    (hm' : @Eq EReal (M' (ix2 p 0)) (b' : EReal)) (hs' : @Eq EReal (S' (ix2 p 0)) (part l' n b' : EReal)) :
    ∃ g : ℝ, @Eq EReal (k0_pay12 (F := Ideal) M M' (ix2 p 0)) (g : EReal)
      ∧ @Eq EReal (k0_pay13 (F := Ideal) M S M' S' (ix2 p 0)) (Ideal.div 1 ((part l n g + part l' n g : ℝ) : EReal)) := by
  have hg : max (b : EReal) (b' : EReal) = ((max b b' : ℝ) : EReal) := (EReal.coe_strictMono.monotone.map_max).symm
  refine ⟨max b b', ?_, ?_⟩
  · show max (M (ix2 p 0) : EReal) (M' (ix2 p 0)) = _
    rw [hm, hm', hg]
  · refine (pay13_at M S M' S' p).trans ?_
    rw [hm, hm', hs, hs', hg, join]

/-- The joint maximum of row `p` is a real, and the reciprocal is that of the whole row's sum relative to it. -/
theorem row_joint (c : Dev nD) (p : Fin 1024) : ∃ g : ℝ, (gm m ρ c (ix2 p 0) : EReal) = g
    ∧ (iv m ρ c (ix2 p 0) : EReal) = Ideal.div 1 (part (logit X W p) 32768 g : EReal) := by
  obtain ⟨b, hm, hs⟩ := row_state ρ hI c p 16 le_rfl
  obtain ⟨b', hm', hs'⟩ := row_state ρ hI (peer c) p 16 le_rfl
  rw [show 1024 * 16 = 16384 by norm_num] at hs hs'
  unfold gm iv
  generalize mst m ρ c 16 = M at *
  generalize mst m ρ (peer c) 16 = M' at *
  generalize sst m ρ c 16 = S at *
  generalize sst m ρ (peer c) 16 = S' at *
  obtain ⟨g, h12, h13⟩ := joined M S M' S' p _ _ _ b b' hm hs hm' hs'
  exact ⟨g, h12, by rw [halves] at h13; exact h13⟩

/-- The result at `(p, q)`: the softmax of row `p`, against any real `b`. -/
theorem out_at (c : Dev nD) (p : Fin 1024) {q : ℕ} (hq : q < 32768) (b : ℝ) :
    (Out m ρ c p.val q : EReal) = ((Real.exp (logit X W p q - b) / part (logit X W p) 32768 b : ℝ) : EReal) := by
  obtain ⟨g, hg, hi⟩ := row_joint ρ hI c p
  have hN : ∀ (c' : Dev nD) (r : ℕ), r < 16384 → (Nm m ρ c (Lg m ρ c') p.val r : EReal)
      = ((Real.exp (logit X W p (ownB c' + r) - b) / part (logit X W p) 32768 b : ℝ) : EReal) := fun c' r hr => by
    have hk : r / 1024 < 16 := by omega
    have hP : (part (logit X W p) 32768 g) ≠ 0 := (part_pos _ (by norm_num) g).ne'
    have hp : (⟨p.val % 1024, Nat.mod_lt _ (by decide)⟩ : Fin 1024) = p := Fin.ext (Nat.mod_eq_of_lt p.isLt)
    have hL : (slab (C := 1) (A := 1024) (B := 1024) (Lg m ρ c') (r / 1024) (ix3 0 p ⟨r % 1024, Nat.mod_lt _ (by decide)⟩) : EReal)
        = logit X W p (ownB c' + r) := by
      unfold Lg
      rw [slab_ofChunks]
      unfold k0_pay6
      refine (ValueIdx.shapeCast_ab_1ab_apply _ _ 0 p _).trans ((product_at ρ hI c' hk p _).trans ?_)
      show ((logit X W p (ownB c' + (1024 * (r / 1024) + r % 1024)) : ℝ) : EReal) = _
      rw [Nat.div_add_mod]
    unfold Nm ofChunks
    rw [hp]
    refine (pay7_at _ _ _ p _).trans ?_
    rw [hL, hg, hi, exp_sub_coe, mul_div_one _ _ hP, quotient _ 32768 _ g b]
  unfold Out
  have h := half_lt c
  have h' := peer_half c
  have hr : q % 16384 < 16384 := Nat.mod_lt _ (by decide)
  split_ifs with hc
  · rw [hN c _ hr, show ownB c + q % 16384 = q by unfold ownB; omega]
  · rw [hN (peer c) _ hr, show ownB (peer c) + q % 16384 = q by unfold ownB; omega]

end Rows

end Cert.KernelIdeal.Sharded

end
-- ==== Proof.ReferenceIdeal.Value.lean ====
/-
# The reference's value

The reference's composed term at an index, at the ideal instance, for inputs that are real: the softmax of a row of logits.
-/
module

public import proofs.«01_k».proof.Proof.Gen.ReferenceIdeal.Run
public import proofs.«01_k».proof.Proof.Softmax
public import Idealize.ShloMosaic.Lib.ValueLayout
public import Idealize.ShloMosaic.Lib.IdealHost
public import Idealize.ShloMosaic.Lib.KernelVsHost
public import Idealize.ShloMosaic.Lib.MatmulPlain

@[expose] public section

noncomputable section

namespace Cert.ReferenceIdeal.Softmaxed

open Cert.ReferenceIdeal Cert.ReferenceIdeal.Gen Cert.Softmax

open Idealize.ShloMosaic
open Idealize.ShloMosaic.ValueIdx (ix1 ix2)
open scoped BigOperators

section At
variable {α : Type}

/-- A vector as a column along every column: the entry of row `p`. -/
theorem along_at (v : S1024.Idx → α) (p : Fin 1024) (q : Fin 32768) :
    broadcastInDim S1024x32768 ![0, 1] bcast_S1024x1_S1024x32768_0_1 (broadcastInDim S1024x1 ![0] bcast_S1024_S1024x1_0 v) (ix2 p q) = v (ix1 p) :=
  (broadcastInDim_apply _ _ _ (ix2 p q) (ix2 p 0) (fun a => match a with | ⟨0, _⟩ => rfl | ⟨1, _⟩ => rfl)).trans
    (broadcastInDim_apply _ _ v (ix2 p 0) (ix1 p) fun a => match a with | ⟨0, _⟩ => rfl)

end At

theorem reduces : S1024x32768.Reduces [1] S1024 := by decide

theorem lift_at (p : Fin 1024) (q : Fin 32768) : reduces.lift (ix1 p) q = (ix2 p q : S1024x32768.Idx) := by
  funext a
  match a with
  | ⟨0, _⟩ => exact Fin.ext rfl
  | ⟨1, _⟩ => exact Fin.ext rfl

/-- The rows' maxima, the rows' sums, the logits, and the exponentials of the logits less their row's maximum. -/
abbrev rowMax (v : FVec Ideal S1024x32768 .f32) : FVec Ideal S1024 .f32 :=
  Host.reduce FloatOps.maximumf v (constant S_ .f32 0xFF800000#32) reducesTo_S1024x32768_S1024_d1 h_S_
abbrev rowSum (v : FVec Ideal S1024x32768 .f32) : FVec Ideal S1024 .f32 :=
  Host.reduceAdd v (constant S_ .f32 0x00000000#32) reducesTo_S1024x32768_S1024_d1 h_S_
abbrev along (v : FVec Ideal S1024 .f32) : FVec Ideal S1024x32768 .f32 :=
  broadcastInDim S1024x32768 ![0, 1] bcast_S1024x1_S1024x32768_0_1 (broadcastInDim S1024x1 ![0] bcast_S1024_S1024x1_0 v)
abbrev logits (x : FVec Ideal S1024x2048 .f32) (w : FVec Ideal S2048x32768 .f32) : FVec Ideal S1024x32768 .f32 :=
  Host.dotGeneral dot_S1024x2048_S2048x32768_S1024x32768_1_0_0_1_n_n none x w
abbrev exps (v : FVec Ideal S1024x32768 .f32) : FVec Ideal S1024x32768 .f32 := Host.exp (subf v (along (rowMax v)))

theorem rowMax_at (v : FVec Ideal S1024x32768 .f32) (p : Fin 1024) :
    (rowMax v (ix1 p) : EReal) = Finset.univ.fold max ⊥ fun q : Fin 32768 => (v (ix2 p q) : EReal) := by
  refine (congrFun (hostReduce_maximumf_eq_multiReduction v 0xFF800000#32 _ _ reduces (.inl rfl) rfl) (ix1 p)).trans ?_
  refine (Ideal.multiReduction_maximumf_single v _ _ _ _ (ix1 p)).trans ?_
  show Finset.univ.fold max (Ideal.ofBits .f32 0xFF800000#32) _ = _
  rw [show Ideal.ofBits .f32 0xFF800000#32 = ⊥ by simp [Ideal.ofBits, Ideal.ieee]]
  exact congrArg (Finset.univ.fold max (⊥ : EReal)) (funext fun q => congrArg v (lift_at p q))
theorem rowSum_at (v : FVec Ideal S1024x32768 .f32) (p : Fin 1024) :
    (rowSum v (ix1 p) : EReal) = ∑ q : Fin 32768, (v (ix2 p q) : EReal) := by
  refine (Ideal.hostReduceAdd_single _ reduces v _ (ix1 p)).trans ?_
  show Ideal.ofBits .f32 0x00000000#32 + _ = _
  rw [Ideal.ofBits_zero_f32, zero_add]
  exact Finset.sum_congr rfl fun q _ => congrArg v (lift_at p q)
theorem logits_at (x : FVec Ideal S1024x2048 .f32) (w : FVec Ideal S2048x32768 .f32) (p : Fin 1024) (q : Fin 32768) :
    (logits x w (ix2 p q) : EReal) = ∑ d : Fin 2048, (x (ix2 p d) : EReal) * w (ix2 d q) := by
  unfold logits
  rw [← matmul_zero_eq_dotGeneral]
  refine (Ideal.matmul_plain_apply (M := 1024) (K := 2048) (N := 32768) none _ _ _ p q).trans ?_
  show Ideal.ofBits .f32 0x00000000#32 + _ = _
  rw [Ideal.ofBits_zero_f32, zero_add]

/-- The reference's result as one term of its arguments. -/
abbrev result (x : FVec Ideal S1024x2048 .f32) (w : FVec Ideal S2048x32768 .f32) : FVec Ideal S1024x32768 .f32 :=
  Host.divf (exps (logits x w)) (along (rowSum (exps (logits x w))))

/-- For a row of logits that are the reals `l`, the result is the softmax of that row, against some real. -/
theorem result_at (x : FVec Ideal S1024x2048 .f32) (w : FVec Ideal S2048x32768 .f32) (p : Fin 1024) (l : ℕ → ℝ)
    (hl : ∀ q : Fin 32768, (∑ d : Fin 2048, (x (ix2 p d) : EReal) * w (ix2 d q)) = (l q.val : EReal)) :
    ∃ b : ℝ, ∀ q : Fin 32768, (result x w (ix2 p q) : EReal) = ((Real.exp (l q.val - b) / part l 32768 b : ℝ) : EReal) := by
  obtain ⟨b, hb⟩ := fold_real (0 : Fin 32768) fun q => l q.val
  have hd : ∀ q : Fin 32768, (logits x w (ix2 p q) : EReal) = (l q.val : EReal) := fun q => (logits_at x w p q).trans (hl q)
  have hm : (rowMax (logits x w) (ix1 p) : EReal) = b := by
    rw [rowMax_at, ← hb]
    exact congrArg (Finset.univ.fold max (⊥ : EReal)) (funext hd)
  have he : ∀ q : Fin 32768, (exps (logits x w) (ix2 p q) : EReal) = (Real.exp (l q.val - b) : EReal) := fun q => by
    refine Eq.trans ?_ (exp_sub_coe (l q.val) b)
    exact congrArg₂ (fun u v : EReal => Ideal.exp (u - v)) (hd q) ((along_at _ p q).trans hm)
  refine ⟨b, fun q => ?_⟩
  have hP : part l 32768 b ≠ 0 := (part_pos l (by norm_num) b).ne'
  refine Eq.trans ?_ (div_real _ _ hP)
  have hs : (rowSum (exps (logits x w)) (ix1 p) : EReal) = (part l 32768 b : EReal) :=
    (rowSum_at (exps (logits x w)) p).trans (sum_part l 32768 b (fun q => exps (logits x w) (ix2 p q)) he)
  have ha : (along (rowSum (exps (logits x w))) (ix2 p q) : EReal) = (part l 32768 b : EReal) := (along_at (rowSum (exps (logits x w))) p q).trans hs
  rw [← he q, ← ha]
  exact ValueIdx.hostDivf_apply (exps (logits x w)) (along (rowSum (exps (logits x w)))) (ix2 p q)

end Cert.ReferenceIdeal.Softmaxed

end
-- ==== Proof.Algebraic.lean ====
/-
# The kernel and the reference agree

For finite inputs, over the extended reals: every device's result is the reference's result, entry by entry the softmax of a
row of real logits.
-/
module

public import proofs.«01_k».proof.Defs
public import proofs.«01_k».proof.Proof.Gen.KernelIdeal
public import proofs.«01_k».proof.Proof.Gen.ReferenceIdeal
public import proofs.«01_k».proof.Proof.KernelIdeal.Run
public import proofs.«01_k».proof.Proof.KernelIdeal.Value
public import proofs.«01_k».proof.Proof.ReferenceIdeal.Value
public import Idealize.ShloMosaic.Lib.ReduceAll

@[expose] public section

noncomputable section

namespace Cert.Agree

open Cert.Softmax
open Idealize.ShloMosaic Idealize.SL.Sem
open Idealize.ShloMosaic.ValueIdx (ix0 ix2)
open Cert.KernelIdeal.Sharded (ownB logit Inputs mat Out)
open Cert.ReferenceIdeal.Softmaxed (result result_at)
open scoped BigOperators

/-! ## What the precondition says -/

/-- The shape relations of the precondition's operations, over a device's blocks and over the reference's arrays. -/
theorem facts_blocks : Cert.Pre_finite_inputs_KernelIdeal.Facts := ⟨by decide, by decide, by decide, by decide, by decide⟩
theorem facts_whole : Cert.Pre_finite_inputs_ReferenceIdeal.Facts := ⟨by decide, by decide, by decide, by decide, by decide⟩

/-- A value whose absolute value compares below +∞ is a real number. -/
theorem real_of_lt (v : Ideal .f32)
    (h : FloatOps.cmpf .olt (FloatOps.hostAbsf v) (FloatOps.ofBits (F := Ideal) .f32 0x7F800000#32) = 1#1) :
    @Eq EReal ((EReal.toReal v : ℝ) : EReal) v := by
  have h : Ideal.cmp .olt (max (v : EReal) (-(v : EReal))) (Ideal.ofBits .f32 0x7F800000#32) = 1#1 := h
  rw [show Ideal.ofBits .f32 0x7F800000#32 = ⊤ by simp [Ideal.ofBits, Ideal.ieee]] at h
  unfold Ideal.cmp at h
  refine EReal.coe_toReal ?_ ?_
  · rintro rfl; simp at h
  · rintro rfl; simp at h

instance : Subsingleton (Cert.Pre_finite_inputs_KernelIdeal.S_).Idx := ⟨fun a b => funext fun i => i.elim0⟩

/-- Where the precondition holds of a device's blocks, every entry of both is a real number. -/
theorem real_of_pre (x : FVec Ideal Cert.KernelIdeal.S1024x2048 .f32) (w : FVec Ideal Cert.KernelIdeal.S2048x16384 .f32)
    (h : (letI := facts_blocks; Cert.Pre_finite_inputs_KernelIdeal.fn (F := Ideal) x w) = fun _ => 1#1) :
    (∀ i, @Eq EReal ((EReal.toReal (x i) : ℝ) : EReal) (x i)) ∧ ∀ i, @Eq EReal ((EReal.toReal (w i) : ℝ) : EReal) (w i) := by
  obtain ⟨hx, hw⟩ := IntOp.andi_eq_one.mp (congrFun h ix0)
  exact ⟨fun i => real_of_lt _ (Host.reduce_andi_all _ _ _ _ ix0 hx i), fun i => real_of_lt _ (Host.reduce_andi_all _ _ _ _ ix0 hw i)⟩

/-! ## A device's block of the weights -/

theorem column_lt (c : Dev Cert.KernelIdeal.nD) (q : Fin 16384) : ownB c + q.val < 32768 := by
  have hc : c.val < 8 := c.isLt
  have hq := q.isLt
  unfold ownB; omega

theorem lin_eq : ∀ c : Dev Cert.KernelIdeal.nD, Layout.meshLin [2, 2, 2] c.val [0] = c.val / 4 := by decide

/-- Column `q` of a device's block is the whole array's column `q` of the device's half. -/
theorem block_at {α : Type} (c : Dev Cert.KernelIdeal.nD) (w : (⟨2, ![2048, 32768]⟩ : Shape).Idx → α) (d : Fin 2048) (q : Fin 16384) :
    Layout.blockN ⟨2, ![2048, 16384]⟩ ⟨2, ![2048, 32768]⟩ (Layout.meshBlock [2, 2, 2] ![[], [0]] c) w (by decide) (ix2 d q)
      = w (ix2 d ⟨ownB c + q.val, column_lt c q⟩) := by
  rw [Layout.blockN_apply]
  refine congrArg w (funext fun a => Fin.ext ?_)
  rw [Layout.TilesN.idx_val]
  match a with
  | ⟨0, _⟩ => exact Nat.zero_add d.val |>.symm ▸ rfl
  | ⟨1, _⟩ =>
    show Layout.meshLin [2, 2, 2] c.val [0] * 16384 + q.val = ownB c + q.val
    rw [lin_eq, Nat.mul_comm]; rfl

/-! ## The inputs as reals -/

section Real

variable (m : (ℓ : Loc Cert.KernelIdeal.nD Cert.KernelIdeal.τ Cert.KernelIdeal.sig) → Buf (Elt Ideal) ℓ)
variable (x : FVec Ideal Cert.ReferenceIdeal.S1024x2048 .f32) (w : FVec Ideal Cert.ReferenceIdeal.S2048x32768 .f32)

/-- The arrays' entries as real numbers; a column past the last wraps around. -/
def xr (p : Fin 1024) (d : Fin 2048) : ℝ := EReal.toReal (x (ix2 p d))
def wr (d : Fin 2048) (q : ℕ) : ℝ := EReal.toReal (w (ix2 d ⟨q % 32768, Nat.mod_lt q (by norm_num)⟩))

theorem wr_at (d : Fin 2048) (q : Fin 32768) : wr w d q.val = EReal.toReal (w (ix2 d q)) :=
  congrArg (fun j => EReal.toReal (w (ix2 d j))) (Fin.ext (Nat.mod_eq_of_lt q.isLt))

/-- Column `q`'s device: 0 for the first half of the columns, 4 for the second. -/
theorem holder (q : Fin 32768) : ∃ (c : Dev Cert.KernelIdeal.nD) (r : Fin 16384), q = ⟨ownB c + r.val, column_lt c r⟩ := by
  have hq := q.isLt
  by_cases h : q.val < 16384
  · exact ⟨0, ⟨q.val, h⟩, Fin.ext (by show q.val = 16384 * (0 / 4) + q.val; omega)⟩
  · exact ⟨4, ⟨q.val - 16384, by omega⟩, Fin.ext (by show q.val = 16384 * (4 / 4) + (q.val - 16384); omega)⟩

variable (hpre : letI := facts_blocks; Cert.Pre_KernelIdeal_finite_inputs_KernelIdeal m)
  (hx : ∀ c : Dev Cert.KernelIdeal.nD, m ((c.tc : Thread Cert.KernelIdeal.nD Cert.KernelIdeal.τ).loc Cert.KernelIdeal.main_arg0) = x)
  (hw : ∀ c : Dev Cert.KernelIdeal.nD, m ((c.tc : Thread Cert.KernelIdeal.nD Cert.KernelIdeal.τ).loc Cert.KernelIdeal.main_arg1)
    = Layout.blockN ⟨2, ![2048, 16384]⟩ ⟨2, ![2048, 32768]⟩ (Layout.meshBlock [2, 2, 2] ![[], [0]] c) w)
include hpre hx hw

/-- Every entry of `x` is a real number, -/
theorem xr_coe (p : Fin 1024) (d : Fin 2048) : @Eq EReal (x (ix2 p d)) (xr x p d : EReal) := by
  have h := (real_of_pre _ _ (hpre 0)).1 (ix2 p d)
  rw [hx 0] at h
  exact h.symm

/-- and every entry of the weights: some device holds its column. -/
theorem wr_coe (d : Fin 2048) (q : Fin 32768) : @Eq EReal (w (ix2 d q)) (wr w d q.val : EReal) := by
  obtain ⟨c, r, rfl⟩ := holder q
  have h := (real_of_pre _ _ (hpre c)).2 (ix2 d r)
  rw [hw c] at h
  rw [wr_at]
  exact (block_at c w d r) ▸ h.symm

/-- The kernel's inputs are those reals. -/
theorem inputs : Inputs m (xr x) (wr w) where
  x c p d := (congrFun (hx c) (ix2 p d)).trans (xr_coe m x w hpre hx hw p d)
  w c d q := ((congrFun (hw c) (ix2 d q)).trans (block_at c w d q)).trans (wr_coe m x w hpre hx hw d ⟨ownB c + q.val, column_lt c q⟩)

/-- The reference's logits are the same reals. -/
theorem logits_eq (p : Fin 1024) (q : Fin 32768) :
    (∑ d : Fin 2048, (x (ix2 p d) : EReal) * w (ix2 d q)) = (logit (xr x) (wr w) p q.val : EReal) := by
  unfold logit
  rw [← sum_coe]
  refine Finset.sum_congr rfl fun d _ => ?_
  rw [xr_coe m x w hpre hx hw p d, wr_coe m x w hpre hx hw d q, ← EReal.coe_mul]

/-- Every device's result is the reference's. -/
theorem out_eq (ρ : Dev Cert.KernelIdeal.nD → PrngReg) (c : Dev Cert.KernelIdeal.nD) :
    (mat (Out m ρ c) : FVec Ideal Cert.ReferenceIdeal.S1024x32768 .f32) = result x w := by
  funext i
  rw [ValueIdx.eq_ix2 i]
  obtain ⟨b, hb⟩ := result_at x w (i 0) (logit (xr x) (wr w) (i 0)) (logits_eq m x w hpre hx hw (i 0))
  exact (Cert.KernelIdeal.Sharded.out_at ρ (inputs m x w hpre hx hw) c (i 0) (i 1).isLt b).trans (hb (i 1)).symm

end Real

/-- The reference's result, of the arguments its one device holds. -/
abbrev whole (m' : (ℓ : Loc Cert.ReferenceIdeal.nD Cert.ReferenceIdeal.τ Cert.ReferenceIdeal.sig) → Buf (Elt Ideal) ℓ) :
    FVec Ideal Cert.ReferenceIdeal.S1024x32768 .f32 :=
  result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))

/-- For finite inputs, the kernel's result on every device is the reference's. -/
theorem agree : Cert.algebraic_KernelIdeal_ReferenceIdeal_pre_finite_inputs_KernelIdeal (hKernelIdeal := Cert.KernelIdeal.Gen.facts)
    (hReferenceIdeal := Cert.ReferenceIdeal.Gen.facts) (hPre_finite_inputs_KernelIdeal := facts_blocks) := by
  intro m g m' g' hpre harg
  refine ⟨whole m', ?_, ?_⟩
  · refine (θ_run _ _ _).mono (fun r h c => ?_) (Cert.KernelIdeal.Sharded.run_main (F := Ideal) m g)
    have e := out_eq m _ _ hpre (fun c => (harg c).1) (fun c => (harg c).2) g c
    exact ⟨(h.1 c).1.trans e, (h.1 c).2⟩
  · exact (θ_run _ _ _).mono (fun r h => h 0) (Cert.ReferenceIdeal.Value.run (F := Ideal) m' g')

end Cert.Agree

end
-- ==== Proof.lean ====
/-
# The certificate's claims
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Algebraic
public import Idealize.ShloMosaic.Lib.Quiescent

@[expose] public section

namespace Cert.Proof

open Idealize.ShloMosaic Idealize.SL.Sem

/-- The kernel on its own floats runs, leaves its arguments, and ends with every counter at zero. -/
theorem frame_kernel : Cert.quiescent_Kernel (hKernel := Cert.Kernel.Gen.facts) := fun m g _ =>
  (θ_run _ _ _).mono (fun _ h => ⟨fun c => ⟨(h.1 c).2.1, (h.1 c).2.2⟩, h.2⟩) (Cert.Kernel.Sharded.run_main (F := Bits) m g)

/-- The same over the extended reals. -/
theorem frame_kernelIdeal : Cert.quiescent_KernelIdeal (hKernelIdeal := Cert.KernelIdeal.Gen.facts) := fun m g _ =>
  (θ_run _ _ _).mono (fun _ h => ⟨fun c => ⟨(h.1 c).2.1, (h.1 c).2.2⟩, h.2⟩) (Cert.KernelIdeal.Sharded.run_main (F := Ideal) m g)

/-- The reference runs, leaves its arguments, and has no counter. -/
theorem frame_reference : Cert.quiescent_ReferenceIdeal (hReferenceIdeal := Cert.ReferenceIdeal.Gen.facts) := fun m g _ =>
  (θ_run _ _ _).mono (fun _ h => ⟨fun c => ⟨(h c).2.1, (h c).2.2⟩, sem_eq_zero_of_no_sems rfl _⟩) (Cert.ReferenceIdeal.Value.run (F := Ideal) m g)

/-- Both ideal programs' frames again, where the inputs are finite: the weaker statements. -/
theorem frame_kernelIdeal_finite : Cert.quiescent_KernelIdeal_pre_finite_inputs_KernelIdeal (hKernelIdeal := Cert.KernelIdeal.Gen.facts)
    (hPre_finite_inputs_KernelIdeal := Cert.Agree.facts_blocks) := fun m g _ => frame_kernelIdeal m g trivial
theorem frame_reference_finite : Cert.quiescent_ReferenceIdeal_pre_finite_inputs_ReferenceIdeal (hReferenceIdeal := Cert.ReferenceIdeal.Gen.facts)
    (hPre_finite_inputs_ReferenceIdeal := Cert.Agree.facts_whole) := fun m g _ => frame_reference m g trivial

theorem claim : Cert.Claim :=
  ⟨Cert.Kernel.Gen.facts, Cert.KernelIdeal.Gen.facts, Cert.ReferenceIdeal.Gen.facts, Cert.Agree.facts_blocks, Cert.Agree.facts_whole,
    frame_kernel, frame_kernelIdeal, frame_kernelIdeal_finite, frame_reference, frame_reference_finite, trivial, Cert.Agree.agree⟩

end Cert.Proof

end
